-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x4096x4096 : Shape := ⟨3, ![3, 4096, 4096]⟩
abbrev S4096 : Shape := ⟨1, ![4096]⟩
abbrev S4096x3072 : Shape := ⟨2, ![4096, 3072]⟩
abbrev S3072 : Shape := ⟨1, ![3072]⟩
abbrev S1x1x4096 : Shape := ⟨3, ![1, 1, 4096]⟩
abbrev S_ : Shape := ⟨0, ![]⟩
abbrev S3x4096 : Shape := ⟨2, ![3, 4096]⟩
abbrev S3x4096x1 : Shape := ⟨3, ![3, 4096, 1]⟩

class Facts : Prop where
  bitsLt_bf16_f32 : FTy.bits .bf16 < FTy.bits .f32
  bcast_S4096_S1x1x4096_2 : S4096.BroadcastsInDim S1x1x4096 (![2] : Fin 1 → Fin S1x1x4096.rank)
  bcast_S1x1x4096_S3x4096x4096_0_1_2 : S1x1x4096.BroadcastsInDim S3x4096x4096 (![0, 1, 2] : Fin 3 → Fin S3x4096x4096.rank)
  reducesTo_S3x4096x4096_S3x4096_d2 : S3x4096x4096.ReducesTo [2] S3x4096
  h_S_ : 0 < S_.numel
  bcast_S3x4096_S3x4096x1_0_1 : S3x4096.BroadcastsInDim S3x4096x1 (![0, 1] : Fin 2 → Fin S3x4096x1.rank)
  bcast_S_S3x4096x1 : S_.BroadcastsInDim S3x4096x1 (![] : Fin 0 → Fin S3x4096x1.rank)
  reducesTo_S3x4096x1_S_d0_1_2 : S3x4096x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : FVec F S4096 .f32) (main_v13 : IVec S3x4096x1 1) (main_v15 : IVec S3x4096x1 1) (main_v17 : IVec S3x4096x1 1) : IVec S_ 1 :=
  let main_v18 : IVec S3x4096x1 1 := andi main_v15 main_v17
  let main_v19 : IVec S3x4096x1 1 := ori main_v13 main_v18
  let main_c : IVec S_ 1 := constantI S_ 1 1#1
  let main_v20 : IVec S_ 1 := (fun x v => Host.reduce IntOp.andi x v reducesTo_S3x4096x1_S_d0_1_2 h_S_) main_v19 main_c
  let main_cst_5 : FVec F S_ .f32 := constant S_ .f32 0x00000000#32
  let main_v21 : FVec F S4096 .f32 := broadcastInDim S4096 ![] bcast_S_S4096 main_cst_5
  let main_v22 : IVec S4096 1 := cmpf .une main_arg1 main_v21
  let main_c_6 : IVec S_ 1 := constantI S_ 1 1#1
  let main_v23 : IVec S_ 1 := (fun x v => Host.reduce IntOp.andi x v reducesTo_S4096_S_d0 h_S_) main_v22 main_c_6
  let main_v24 : IVec S_ 1 := andi main_v20 main_v23
  main_v24

def fn {F : FTy → Type} [FloatOps F] (main_arg0 : FVec F S3x4096x4096 .bf16) (main_arg1 : FVec F S4096 .f32) (main_arg2 : FVec F S4096x3072 .fp8e4m3) (main_arg3 : FVec F S3072 .f32) : IVec S_ 1 :=
  let main_v0 : FVec F S3x4096x4096 .f32 := (extf .f32 · bitsLt_bf16_f32) main_arg0
  let main_v1 : FVec F S1x1x4096 .f32 := broadcastInDim S1x1x4096 ![2] bcast_S4096_S1x1x4096_2 main_arg1
  let main_v2 : FVec F S3x4096x4096 .f32 := broadcastInDim S3x4096x4096 ![0, 1, 2] bcast_S1x1x4096_S3x4096x4096_0_1_2 main_v1
  let main_v3 : FVec F S3x4096x4096 .f32 := Host.divf main_v0 main_v2
  let main_v4 : FVec F S3x4096x4096 .f32 := Host.absf main_v3
  let main_cst : FVec F S_ .f32 := constant S_ .f32 0xFF800000#32
  let main_v5 : FVec F S3x4096 .f32 := (fun x v => Host.reduce FloatOps.maximumf x v reducesTo_S3x4096x4096_S3x4096_d2 h_S_) main_v4 main_cst
  let main_v6 : FVec F S3x4096x1 .f32 := broadcastInDim S3x4096x1 ![0, 1] bcast_S3x4096_S3x4096x1_0_1 main_v5
  let main_cst_0 : FVec F S_ .f32 := constant S_ .f32 0x3B124925#32
  let main_v7 : FVec F S3x4096x1 .f32 := broadcastInDim S3x4096x1 ![] bcast_S_S3x4096x1 main_cst_0
  let main_v8 : FVec F S3x4096x1 .f32 := mulf main_v6 main_v7
  let main_cst_1 : FVec F S_ .f32 := constant S_ .f32 0x00000000#32
  let main_v9 : FVec F S3x4096x1 .f32 := broadcastInDim S3x4096x1 ![] bcast_S_S3x4096x1 main_cst_1
  let main_v10 : IVec S3x4096x1 1 := cmpf .oeq main_v8 main_v9
  let main_cst_2 : FVec F S_ .f32 := constant S_ .f32 0x7F800000#32
  let main_v11 : FVec F S3x4096x1 .f32 := broadcastInDim S3x4096x1 ![] bcast_S_S3x4096x1 main_cst_2
  let main_v12 : IVec S3x4096x1 1 := cmpf .oeq main_v8 main_v11
  let main_v13 : IVec S3x4096x1 1 := ori main_v10 main_v12
  let main_cst_3 : FVec F S_ .f32 := constant S_ .f32 0x00800000#32
  let main_v14 : FVec F S3x4096x1 .f32 := broadcastInDim S3x4096x1 ![] bcast_S_S3x4096x1 main_cst_3
  let main_v15 : IVec S3x4096x1 1 := cmpf .oge main_v8 main_v14
  let main_cst_4 : FVec F S_ .f32 := constant S_ .f32 0x7E800000#32
  let main_v16 : FVec F S3x4096x1 .f32 := broadcastInDim S3x4096x1 ![] bcast_S_S3x4096x1 main_cst_4
  let main_v17 : IVec S3x4096x1 1 := cmpf .olt main_v8 main_v16
  fn_part1 (F := F) main_arg1 main_v13 main_v15 main_v17
-- ==== Kernel.lean ====
abbrev S3x4096x4096 : Shape := ⟨3, ![3, 4096, 4096]⟩
abbrev S4096 : Shape := ⟨1, ![4096]⟩
abbrev S4096x3072 : Shape := ⟨2, ![4096, 3072]⟩
abbrev S3072 : Shape := ⟨1, ![3072]⟩
abbrev S12288x4096 : Shape := ⟨2, ![12288, 4096]⟩
abbrev S1x4096 : Shape := ⟨2, ![1, 4096]⟩
abbrev S1x3072 : Shape := ⟨2, ![1, 3072]⟩
abbrev S12288x3072 : Shape := ⟨2, ![12288, 3072]⟩
abbrev S24x1x512 : Shape := ⟨3, ![24, 1, 512]⟩
abbrev S512x4096 : Shape := ⟨2, ![512, 4096]⟩
abbrev S512x3072 : Shape := ⟨2, ![512, 3072]⟩
abbrev S1x1x512 : Shape := ⟨3, ![1, 1, 512]⟩
abbrev S512x128 : Shape := ⟨2, ![512, 128]⟩
abbrev S32x4096 : Shape := ⟨2, ![32, 4096]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S128x128 : Shape := ⟨2, ![128, 128]⟩
abbrev S1x128 : Shape := ⟨2, ![1, 128]⟩
abbrev S1x1x128 : Shape := ⟨3, ![1, 1, 128]⟩
abbrev S4096x512 : Shape := ⟨2, ![4096, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S3x4096x4096, .bf16⟩
  | .hbm, ⟨1, _⟩ => ⟨S4096, .f32⟩
  | .hbm, ⟨2, _⟩ => ⟨S4096x3072, .fp8e4m3⟩
  | .hbm, ⟨3, _⟩ => ⟨S3072, .f32⟩
  | .hbm, ⟨4, _⟩ => ⟨S12288x4096, .bf16⟩
  | .hbm, ⟨5, _⟩ => ⟨S1x4096, .f32⟩
  | .hbm, ⟨6, _⟩ => ⟨S1x3072, .f32⟩
  | .hbm, ⟨7, _⟩ => ⟨S12288x3072, .bf16⟩
  | .hbm, ⟨8, _⟩ => ⟨S12288x4096, .fp8e4m3⟩
  | .hbm, ⟨9, _⟩ => ⟨S24x1x512, .f32⟩
  | .local _ .vmem, ⟨0, _⟩ => ⟨S512x4096, .bf16⟩
  | .local _ .vmem, ⟨1, _⟩ => ⟨S512x4096, .bf16⟩
  | .local _ .vmem, ⟨2, _⟩ => ⟨S1x4096, .f32⟩
  | .local _ .vmem, ⟨3, _⟩ => ⟨S4096x3072, .fp8e4m3⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S512x4096, .fp8e4m3⟩
  | .local _ .vmem, ⟨8, _⟩ => ⟨S512x4096, .fp8e4m3⟩
  | .local _ .vmem, ⟨9, _⟩ => ⟨S1x1x512, .f32⟩
  | .local _ .vmem, ⟨10, _⟩ => ⟨S1x1x512, .f32⟩
  | .local _ .vmem, ⟨11, _⟩ => ⟨S1x4096, .f32⟩
  | .local _ .vmem, ⟨12, _⟩ => ⟨S512x128, .f32⟩
  | _, _ => ⟨S3x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x4096x4096 : Shape := ⟨3, ![3, 4096, 4096]⟩
abbrev S4096 : Shape := ⟨1, ![4096]⟩
abbrev S4096x3072 : Shape := ⟨2, ![4096, 3072]⟩
abbrev S3072 : Shape := ⟨1, ![3072]⟩
abbrev S12288x4096 : Shape := ⟨2, ![12288, 4096]⟩
abbrev S1x4096 : Shape := ⟨2, ![1, 4096]⟩
abbrev S1x3072 : Shape := ⟨2, ![1, 3072]⟩
abbrev S12288x3072 : Shape := ⟨2, ![12288, 3072]⟩
abbrev S24x1x512 : Shape := ⟨3, ![24, 1, 512]⟩
abbrev S12288 : Shape := ⟨1, ![12288]⟩
abbrev S12288x1 : Shape := ⟨2, ![12288, 1]⟩

abbrev nBuf : Space → Nat
  | .hbm => 10
  | .vmem => 7
  | .smem => 0
  | _ => 0

abbrev bufTy : (tb : Table) → Fin (tcTables nBuf tb) → BufTy
  | .hbm, ⟨0, _⟩ => ⟨S3x4096x4096, .bf16⟩
  | .hbm, ⟨1, _⟩ => ⟨S4096, .f32⟩
  | .hbm, ⟨2, _⟩ => ⟨S4096x3072, .fp8e4m3⟩
  | .hbm, ⟨3, _⟩ => ⟨S3072, .f32⟩
  | .hbm, ⟨4, _⟩ => ⟨S12288x4096, .bf16⟩
  | .hbm, ⟨5, _⟩ => ⟨S1x4096, .f32⟩
  | .hbm, ⟨6, _⟩ => ⟨S1x3072, .f32⟩
  | .hbm, ⟨7, _⟩ => ⟨S12288x3072, .bf16⟩
  | .hbm, ⟨8, _⟩ => ⟨S12288x4096, .fp8e4m3⟩
  | .hbm, ⟨9, _⟩ => ⟨S24x1x512, .f32⟩
  | .local _ .vmem, ⟨0, _⟩ => ⟨S12288x4096, .bf16⟩
  | .local _ .vmem, ⟨1, _⟩ => ⟨S1x4096, .f32⟩
  | .local _ .vmem, ⟨2, _⟩ => ⟨S4096x3072, .fp8e4m3⟩
  | .local _ .vmem, ⟨3, _⟩ => ⟨S1x3072, .f32⟩
  | .local _ .vmem, ⟨4, _⟩ => ⟨S12288x3072, .bf16⟩
  | .local _ .vmem, ⟨5, _⟩ => ⟨S12288x4096, .fp8e4m3⟩
  | .local _ .vmem, ⟨6, _⟩ => ⟨S24x1x512, .f32⟩
  | _, _ => ⟨S3x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The power-of-two scale of one row, over the extended reals. A row whose largest magnitude is `a` is scaled by the
  power of two `2^e`, `e` the exponent of `t = a · (1/448)` written as `f · 2^e` with `1/2 ≤ f < 1`, and `e = 0` at
  zero and at infinity. Two ways to it are shown equal here:
  * the kernel's: count the powers of two `2^(k-127)`, `k = 1 … 255`, that `t` reaches (the word `k << 23` read as a
    float), which is the exponent field of `t`; subtract 126; and write the scale and its inverse as the words
    `(127 + e) << 23` and `(127 - e) << 23`;
  * the reference's: `⌊log t / log 2⌋ + 1`, and `exp2` of it and of its negation.
-/
module

public import Idealize.ShloMosaic.PureOps.Ideal

@[expose] public section

noncomputable section

open Idealize.ShloMosaic

namespace Cert.Scale

/-- The float whose word is `b << 23`: the exponent field `b`, a zero sign and a zero fraction. -/
def word (b : BitVec 32) : EReal := Ideal.ofBits .f32 (b <<< (23 : ℕ))

/-- The three fields of the word `n << 23`, for every field value `n`. -/
theorem fields : ∀ n : Fin 256, ((BitVec.ofNat 32 n.val <<< (23 : ℕ)).extractLsb' 23 8).toNat = n.val
    ∧ ((BitVec.ofNat 32 n.val <<< (23 : ℕ)).extractLsb' 0 23).toNat = 0
    ∧ ((BitVec.ofNat 32 n.val <<< (23 : ℕ)).extractLsb' 31 1 == 1#1) = false := by decide +kernel

/-- What a word with exponent field `n`, zero fraction and zero sign denotes. -/
theorem ieee_of_fields (b : BitVec 32) (n : ℕ) (e1 : (b.extractLsb' 23 8).toNat = n) (e2 : (b.extractLsb' 0 23).toNat = 0)
    (e3 : (b.extractLsb' 31 1 == 1#1) = false) (h1 : 1 ≤ n) :
    Ideal.ieee 8 23 b = if n = 255 then ⊤ else (((2 : ℝ) ^ ((n : ℤ) - 127) : ℝ) : EReal) := by
  unfold Ideal.ieee
  simp only [show 8 + 23 = 31 from rfl, e1, e2, e3]
  norm_num
  by_cases hn : n = 255
  · simp [hn]
  · rw [if_neg hn, if_neg (by omega), if_neg hn]
    have h : ((n : ℤ) - 127) = ((n : ℤ) - 127 - 23) + 23 := by ring
    rw [h, zpow_add₀ (by norm_num)]
    norm_num
    exact mul_comm _ _

/-- The word of a field from 1 to 254 is a power of two. -/
theorem word_pow (n : ℕ) (h1 : 1 ≤ n) (h2 : n ≤ 254) : word (BitVec.ofNat 32 n) = (((2 : ℝ) ^ ((n : ℤ) - 127) : ℝ) : EReal) :=
  have e := fields ⟨n, by omega⟩
  (ieee_of_fields _ n e.1 e.2.1 e.2.2 h1).trans (if_neg (by omega))

/-- The word of the field 255 is infinity. -/
theorem word_top : word (BitVec.ofNat 32 255) = ⊤ :=
  have e := fields (255 : Fin 256)
  (ieee_of_fields (BitVec.ofNat 32 255 <<< (23 : ℕ)) 255 e.1 e.2.1 e.2.2 (by omega)).trans (if_pos rfl)

/-- The kernel's count at `t`: how many of the fields 1 … 255 have a word that `t` reaches. -/
def count (t : EReal) : EReal := ∑ k : Fin 256, if word (BitVec.ofNat 32 k.val) ≤ t ∧ 0 < k.val then 1 else 0

/-- If `t` reaches exactly the fields 1 … N, the count is `N`. -/
theorem count_eq (t : EReal) (N : ℕ) (hN : N ≤ 255)
    (h : ∀ k : ℕ, 1 ≤ k → k ≤ 255 → (word (BitVec.ofNat 32 k) ≤ t ↔ k ≤ N)) : count t = ((N : ℝ) : EReal) := by
  have h1 : count t = ∑ k : Fin 256, (((if 1 ≤ k.val ∧ k.val ≤ N then 1 else 0 : ℝ)) : EReal) := by
    refine Finset.sum_congr rfl fun k _ => ?_
    by_cases h0 : 0 < k.val
    · have := h k.val h0 (by omega)
      by_cases hk : k.val ≤ N
      · rw [if_pos ⟨this.2 hk, h0⟩, if_pos ⟨h0, hk⟩]; rfl
      · rw [if_neg (fun hh => hk (this.1 hh.1)), if_neg (fun hh => hk hh.2)]; rfl
    · rw [if_neg (fun hh => h0 hh.2), if_neg (fun hh => h0 hh.1)]; rfl
  rw [h1]
  have h2 : ∀ S : Finset (Fin 256), ∑ k ∈ S, (((if 1 ≤ k.val ∧ k.val ≤ N then 1 else 0 : ℝ)) : EReal)
      = ((∑ k ∈ S, (if 1 ≤ k.val ∧ k.val ≤ N then 1 else 0 : ℝ) : ℝ) : EReal) := by
    intro S
    classical
    induction S using Finset.induction_on with
    | empty => simp
    | insert a S ha ih => rw [Finset.sum_insert ha, Finset.sum_insert ha, ih, EReal.coe_add]
  rw [h2, Finset.sum_boole]
  congr 2
  rw [show (Finset.univ.filter fun k : Fin 256 => 1 ≤ k.val ∧ k.val ≤ N).card = ((Finset.range 256).filter fun k => 1 ≤ k ∧ k ≤ N).card from ?_]
  · rw [show ((Finset.range 256).filter fun k => 1 ≤ k ∧ k ≤ N) = Finset.Icc 1 N from ?_]
    · simp
    · ext k; simp; omega
  · refine Finset.card_bij (fun k _ => k.val) (fun k hk => ?_) (fun _ _ _ _ h => Fin.ext h) (fun k hk => ?_)
    · have := k.isLt
      simp at hk ⊢
      omega
    · simp at hk
      exact ⟨⟨k, hk.1⟩, by simp; omega, rfl⟩

/-- The kernel's exponent word at a count `f`: zero at the fields 0 and 255, else `f - 126`. -/
def expo (f : BitVec 32) : BitVec 32 := if f = 0#32 ∨ f = 255#32 then 0#32 else f - 126#32

/-- The reference's exponent at `t`. -/
def rexpo (t : EReal) : EReal :=
  if t = 0 ∨ t = ⊤ then 0 else Ideal.liftRound Int.floor (Ideal.div (Ideal.log t) ((Real.log 2 : ℝ) : EReal)) + 1

/-- A count up to 255, converted to an integer word. -/
theorem toInt_count (N : ℕ) (hN : N ≤ 255) : Ideal.fptosi 32 ((N : ℝ) : EReal) = BitVec.ofNat 32 N := by
  unfold Ideal.fptosi
  rw [Ideal.toIntClamped_coe, if_pos (by positivity), show (⌊((N : ℕ) : ℝ)⌋ : ℤ) = N from Int.floor_natCast N]
  rw [show max (-(2 ^ (32 - 1) : ℕ) : ℤ) (min (((2 ^ (32 - 1) : ℕ) : ℤ) - 1) (N : ℤ)) = N from ?_]
  · rfl
  · push_cast; omega

/-- Where the two scales are the same: `t` is zero, infinite, or in `[2^-126, 2^126)`. -/
def Ok (t : EReal) : Prop :=
  t = 0 ∨ t = ⊤ ∨ ((((2 : ℝ) ^ (-126 : ℤ) : ℝ) : EReal) ≤ t ∧ t < (((2 : ℝ) ^ (126 : ℤ) : ℝ) : EReal))

/-- The power of two below a positive real `r`: `2^z ≤ r` exactly when `z ≤ ⌊log₂ r⌋`. -/
theorem pow_le_iff (r : ℝ) (hr : 0 < r) (z : ℤ) : (2 : ℝ) ^ z ≤ r ↔ z ≤ ⌊Real.log r / Real.log 2⌋ := by
  have hl : (0 : ℝ) < Real.log 2 := Real.log_pos (by norm_num)
  rw [Int.le_floor, le_div_iff₀ hl, ← Real.log_zpow, Real.log_le_log_iff (by positivity) hr]

/-- On an allowed `t`, the exponent both sides compute is one integer `e` between -125 and 126. -/
theorem exponent (t : EReal) (h : Ok t) : ∃ e : ℤ, -125 ≤ e ∧ e ≤ 126
    ∧ expo (Ideal.fptosi 32 (count t)) = BitVec.ofInt 32 e ∧ rexpo t = ((e : ℝ) : EReal) := by
  rcases h with rfl | rfl | ⟨ha, hb⟩
  · refine ⟨0, by omega, by omega, ?_, ?_⟩
    · rw [count_eq 0 0 (by omega) fun k h1 h2 => ?_, toInt_count 0 (by omega)]
      · decide
      · refine ⟨fun hh => ?_, fun hh => by omega⟩
        rcases Nat.lt_or_ge k 255 with hk | hk
        · rw [word_pow k h1 (by omega)] at hh
          have : (2 : ℝ) ^ ((k : ℤ) - 127) ≤ 0 := by exact_mod_cast hh
          have h3 : (0 : ℝ) < (2 : ℝ) ^ ((k : ℤ) - 127) := by positivity
          linarith
        · obtain rfl : k = 255 := by omega
          rw [word_top] at hh
          simp at hh
    · unfold rexpo; rw [if_pos (Or.inl rfl)]; simp
  · refine ⟨0, by omega, by omega, ?_, ?_⟩
    · rw [count_eq ⊤ 255 (by omega) fun k h1 h2 => ⟨fun _ => h2, fun _ => le_top⟩, toInt_count 255 (by omega)]
      decide
    · unfold rexpo; rw [if_pos (Or.inr rfl)]; simp
  · induction t with
    | bot => exact absurd ha (by simp)
    | top => exact absurd hb (by simp)
    | coe r =>
      have ha' : (2 : ℝ) ^ (-126 : ℤ) ≤ r := by exact_mod_cast ha
      have hb' : r < (2 : ℝ) ^ (126 : ℤ) := by exact_mod_cast hb
      have hr : 0 < r := lt_of_lt_of_le (by positivity) ha'
      have hl : (0 : ℝ) < Real.log 2 := Real.log_pos (by norm_num)
      have hlo := (pow_le_iff r hr _).1 ha'
      have hhi : ¬ (126 : ℤ) ≤ ⌊Real.log r / Real.log 2⌋ := fun hh => absurd ((pow_le_iff r hr _).2 hh) (not_le.2 hb')
      obtain ⟨N, hN⟩ : ∃ N : ℕ, ⌊Real.log r / Real.log 2⌋ + 127 = N := ⟨(⌊Real.log r / Real.log 2⌋ + 127).toNat, by omega⟩
      refine ⟨⌊Real.log r / Real.log 2⌋ + 1, by omega, by omega, ?_, ?_⟩
      · rw [count_eq (r : EReal) N (by omega) fun k h1 h2 => ?_, toInt_count N (by omega)]
        · rw [show ⌊Real.log r / Real.log 2⌋ + 1 = (N : ℤ) - 126 by omega]
          have h1 : 1 ≤ N := by omega
          have h2 : N ≤ 252 := by omega
          clear hN
          interval_cases N <;> decide
        · rcases Nat.lt_or_ge k 255 with hk | hk
          · rw [word_pow k h1 (by omega), EReal.coe_le_coe_iff, pow_le_iff r hr]; omega
          · obtain rfl : k = 255 := by omega
            rw [word_top]
            refine ⟨fun hh => absurd hh (by simp), fun hh => by omega⟩
      · unfold rexpo
        rw [if_neg (by
          rintro (h | h)
          · exact hr.ne' (by exact_mod_cast h)
          · exact absurd h (EReal.coe_ne_top r))]
        rw [Ideal.log_coe, if_neg (not_le.2 hr)]
        unfold Ideal.div
        rw [if_neg (by exact_mod_cast hl.ne'), ← EReal.coe_inv, ← EReal.coe_mul, Ideal.liftRound_coe, ← div_eq_mul_inv]
        push_cast
        rfl

/-- THE SCALE: on an allowed `t` the kernel's word `(127 + e) << 23` is the reference's `exp2 e`. -/
theorem scale_eq (t : EReal) (h : Ok t) : word (127#32 + expo (Ideal.fptosi 32 (count t))) = Ideal.exp2 (rexpo t) := by
  obtain ⟨e, h1, h2, h3, h4⟩ := exponent t h
  rw [h3, h4, Ideal.exp2_coe]
  obtain ⟨N, hN⟩ : ∃ N : ℕ, e + 127 = N := ⟨(e + 127).toNat, by omega⟩
  obtain rfl : e = (N : ℤ) - 127 := by omega
  rw [show 127#32 + BitVec.ofInt 32 ((N : ℤ) - 127) = BitVec.ofNat 32 N from ?_, word_pow N (by omega) (by omega)]
  · congr 1
    exact (Real.rpow_intCast 2 _).symm
  · have h1 : 2 ≤ N := by omega
    have h2 : N ≤ 253 := by omega
    clear hN h3 h4
    interval_cases N <;> decide

/-- THE INVERSE SCALE: on an allowed `t` the kernel's word `(127 - e) << 23` is the reference's `exp2 (0 - e)`. -/
theorem inv_scale_eq (t : EReal) (h : Ok t) :
    word (127#32 - expo (Ideal.fptosi 32 (count t))) = Ideal.exp2 (0 - rexpo t) := by
  obtain ⟨e, h1, h2, h3, h4⟩ := exponent t h
  rw [h3, h4]
  rw [show (0 : EReal) - ((e : ℝ) : EReal) = (((-e : ℤ) : ℝ) : EReal) by push_cast; simp, Ideal.exp2_coe]
  obtain ⟨N, hN⟩ : ∃ N : ℕ, 127 - e = N := ⟨(127 - e).toNat, by omega⟩
  obtain rfl : e = 127 - (N : ℤ) := by omega
  rw [show 127#32 - BitVec.ofInt 32 (127 - (N : ℤ)) = BitVec.ofNat 32 N from ?_, word_pow N (by omega) (by omega)]
  · congr 1
    rw [show -(127 - (N : ℤ)) = (N : ℤ) - 127 by ring]
    exact (Real.rpow_intCast 2 _).symm
  · have h1 : 1 ≤ N := by omega
    have h2 : N ≤ 253 := by omega
    clear hN h3 h4
    interval_cases N <;> decide

end Cert.Scale

end
-- ==== Proof.Row.lean ====
/-
  One row of the quantiser, over the extended reals, as plain functions of the row's smoothed values `f k`: the largest
  magnitude, its 448th part, the power-of-two scale and the codes. The kernel's 32-row block computes these functions of
  each of its rows (`codesB_apply`, `scaleB_apply`).
-/
module

public import proofs.«01_k».proof.Defs
public import proofs.«01_k».proof.Proof.Scale
public import proofs.«01_k».proof.Proof.Gen.KernelIdeal.Skeleton
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Row

open Cert.Scale

/-- The largest magnitude of a row, folded from minus infinity. -/
def amax (f : Fin 4096 → EReal) : EReal :=
  Finset.univ.fold max (Ideal.ofBits .f32 0xFF800000#32) fun k => max (f k) (-(f k))

/-- Its product with the float constant 1/448: what the scale's exponent is taken of. -/
def tmax (f : Fin 4096 → EReal) : EReal := amax f * Ideal.ofBits .f32 0x3B124925#32

/-- The kernel's scale of a row: the word `(127 + e) << 23`. -/
def scale (f : Fin 4096 → EReal) : EReal := word (127#32 + expo (Ideal.fptosi 32 (count (tmax f))))

/-- The kernel's inverse scale of a row: the word `(127 - e) << 23`. -/
def inv (f : Fin 4096 → EReal) : EReal := word (127#32 - expo (Ideal.fptosi 32 (count (tmax f))))

/-- A value times the inverse scale, clipped to `[-448, 448]`: the code. -/
def clip (r v : EReal) : EReal := min (Ideal.ofBits .f32 0x43E00000#32) (max (Ideal.ofBits .f32 0xC3E00000#32) (v * r))

/-- Row `i` of `n` rows, each value times its channel's inverse smoothing factor. -/
def row {n : ℕ} (X : (⟨2, ![n, 4096]⟩ : Shape).Idx → EReal) (s : (⟨2, ![1, 4096]⟩ : Shape).Idx → EReal) (i : Fin n) :
    Fin 4096 → EReal := fun k => X (ix2 i k) * s (ix2 0 k)

/-- The codes of `n` rows. -/
def codes {n : ℕ} (X : (⟨2, ![n, 4096]⟩ : Shape).Idx → EReal) (s : (⟨2, ![1, 4096]⟩ : Shape).Idx → EReal) :
    (⟨2, ![n, 4096]⟩ : Shape).Idx → EReal := fun y => clip (inv (row X s (y 0))) (row X s (y 0) (y 1))

/-- The kernel's exponent word, as printed, is `expo`. -/
theorem expo_eq (f : BitVec 32) :
    Scalar.select (IntOp.ori (IntOp.cmpi .eq f 0#32) (IntOp.cmpi .eq f 255#32)) (0#32) (IntOp.subi f 126#32) = expo f := by
  unfold expo
  by_cases h0 : f = 0#32
  · subst h0; rfl
  · by_cases h1 : f = 255#32
    · subst h1; rfl
    · rw [if_neg (by rintro (h | h); exacts [h0 h, h1 h])]
      have e0 : (f == 0#32) = false := beq_eq_false_iff_ne.2 h0
      have e1 : (f == 255#32) = false := beq_eq_false_iff_ne.2 h1
      simp only [IntOp.cmpi, e0, e1]
      rfl

/-- A lane number below 256 is positive as a signed word exactly when it is positive. -/
theorem sgt_eq : ∀ k : Fin 256, IntOp.cmpi .sgt (BitVec.ofNat 32 k.val) 0#32 = BitVec.ofBool (decide (0 < k.val)) := by
  decide +kernel

/-- The kernel's count, as printed, is `count`. -/
theorem count_printed (t : EReal) :
    (∑ k : Fin 256, Scalar.select (IntOp.andi
        (BitVec.ofBool (decide (Ideal.ofBits .f32 (IntOp.shli .vector (BitVec.ofNat 32 k.val) 23#32) ≤ t)))
        (IntOp.cmpi .sgt (BitVec.ofNat 32 k.val) 0#32)) (1 : EReal) 0) = count t := by
  refine Finset.sum_congr rfl fun k _ => ?_
  rw [sgt_eq]
  change Scalar.select (IntOp.andi (BitVec.ofBool (decide (word (BitVec.ofNat 32 k.val) ≤ t))) _) (1 : EReal) 0 = _
  by_cases h1 : word (BitVec.ofNat 32 k.val) ≤ t <;> by_cases h2 : 0 < k.val <;> simp only [h1, h2, and_self, and_true, true_and, and_false, false_and, if_true, if_false, decide_true, decide_false] <;> rfl

end Cert.Row

namespace Cert.KernelIdeal.Hand

open Cert.KernelIdeal Cert.KernelIdeal.Gen Cert.Row

/-- The codes of one 32-row block, from its rows and the inverse smoothing factors. -/
def codesB (x : Vec Ideal S32x4096 .bf16) (s : Vec Ideal S1x4096 .f32) : FVec Ideal S32x4096 .fp8e4m3 :=
  k0_pay6 (k0_pay3 x s) (k0_pay5 x s)

/-- The scales of one 32-row block, each over 128 lanes. -/
def scaleB (x : Vec Ideal S32x4096 .bf16) (s : Vec Ideal S1x4096 .f32) : FVec Ideal S32x128 .f32 :=
  k0_pay7 (k0_pay4 x s)

/-- The block's exponent word at a row. -/
theorem pay4_apply (x : Vec Ideal S32x4096 .bf16) (s : Vec Ideal S1x4096 .f32) (y : S32x1.Idx) :
    k0_pay4 x s y = Scale.expo (Ideal.fptosi 32 (Scale.count (tmax (row x s (y 0))))) := by
  unfold k0_pay4 k0_pay3
  pointwise
  refine (expo_eq (Ideal.fptosi 32 _)).trans ?_
  refine congrArg (fun S => Scale.expo (Ideal.fptosi 32 S)) ?_
  exact count_printed (tmax (row x s (y 0)))

/-- The block's codes are the row functions' codes. -/
theorem codesB_apply (x : Vec Ideal S32x4096 .bf16) (s : Vec Ideal S1x4096 .f32) (y : S32x4096.Idx) :
    codesB x s y = codes (n := 32) x s y := by
  unfold codesB k0_pay6 k0_pay5 k0_pay3
  pointwise
  rw [pay4_apply]
  rw [eq_ix2 y]
  rfl

/-- The block's scales are the row functions' scales. -/
theorem scaleB_apply (x : Vec Ideal S32x4096 .bf16) (s : Vec Ideal S1x4096 .f32) (y : S32x128.Idx) :
    scaleB x s y = scale (row x s (y 0)) := by
  unfold scaleB k0_pay7
  pointwise
  rw [pay4_apply]
  rfl

end Cert.KernelIdeal.Hand

end
-- ==== Proof.Block.lean ====
/-
  One point of the kernel's grid: 512 rows in sixteen blocks of 32. Every block stores the same functions of its rows, so
  the codes' block and the scales' scratch, read back whole, are the row functions over all 512 rows (`codes_A`, `codes_B`,
  `scales_A`, `scales_B`). Case A is the first point of a run, which also fills the scratch of inverse smoothing factors;
  case B is every other point, which reads that scratch.
-/
module

public import proofs.«01_k».proof.Proof.Row
public import proofs.«01_k».proof.Proof.Gen.KernelIdeal.Frame
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem

namespace Cert.KernelIdeal.Hand

open Cert.KernelIdeal Cert.KernelIdeal.Gen Cert.Row

/-- The scales of 512 rows, each over 128 lanes: what the scratch of scales holds. -/
def scales (X : Vec Ideal S512x4096 .bf16) (s : Vec Ideal S1x4096 .f32) : Vec Ideal S512x128 .f32 :=
  fun y => scale (row X s (y 0))

/-- Row `p` of the block of rows from `o` on is row `o + p` of the 512. -/
theorem row_block (m : Memref sig .tc .vmem S512x4096 .bf16) (h : m.IsWhole) (X : Vec Ideal S512x4096 .bf16)
    (s : Vec Ideal S1x4096 .f32) {o : ℕ} (inb : ∀ a, (![o, 0] : Fin 2 → ℕ) a + S32x4096.size a ≤ S512x4096.size a)
    (p : Fin 32) (q : Fin 512) (hq : q.val = o + p.val) :
    row (n := 32) (View.readAt (Elt Ideal) m.view (Rect.unit (s := S512x4096) ![o, 0] S32x4096.size inb).toLoadRect (h.unread X)) s p
      = row X s q := by
  funext k
  unfold row
  rw [h.readAt_unread]
  refine congrArg (· * _) (congrArg X ?_)
  funext a
  fin_cases a
  · exact Fin.ext (by show o + 1 * p.val = q.val; omega)
  · exact Fin.ext (by show 0 + 1 * k.val = k.val; omega)

/-- A block's stored codes are the 512 rows' codes at the place they are stored. -/
theorem codes_piece (m : Memref sig .tc .vmem S512x4096 .bf16) (h : m.IsWhole) (X : Vec Ideal S512x4096 .bf16)
    (s : Vec Ideal S1x4096 .f32) {o : ℕ} (inb : ∀ a, (![o, 0] : Fin 2 → ℕ) a + S32x4096.size a ≤ S512x4096.size a)
    (y : S32x4096.Idx) :
    codesB (View.readAt (Elt Ideal) m.view (Rect.unit (s := S512x4096) ![o, 0] S32x4096.size inb).toLoadRect (h.unread X)) s y
      = codes (n := 512) X s ((Rect.unit (s := S512x4096) ![o, 0] S32x4096.size inb).emb y) := by
  rw [codesB_apply]
  unfold codes
  rw [row_block m h X s inb (y 0) ((Rect.unit (s := S512x4096) ![o, 0] S32x4096.size inb).emb y 0) (by show o + 1 * (y 0).val = _; omega)]
  refine congrArg (fun z => clip _ (row X s _ z)) (Fin.ext ?_)
  show (y 1).val = 0 + 1 * (y 1).val
  omega

/-- A block's stored scales are the 512 rows' scales at the place they are stored. -/
theorem scales_piece (m : Memref sig .tc .vmem S512x4096 .bf16) (h : m.IsWhole) (X : Vec Ideal S512x4096 .bf16)
    (s : Vec Ideal S1x4096 .f32) {o : ℕ} (inb : ∀ a, (![o, 0] : Fin 2 → ℕ) a + S32x4096.size a ≤ S512x4096.size a)
    (inb' : ∀ a, (![o, 0] : Fin 2 → ℕ) a + S32x128.size a ≤ S512x128.size a) (y : S32x128.Idx) :
    scaleB (View.readAt (Elt Ideal) m.view (Rect.unit (s := S512x4096) ![o, 0] S32x4096.size inb).toLoadRect (h.unread X)) s y
      = scales X s ((Rect.unit (s := S512x128) ![o, 0] S32x128.size inb').emb y) := by
  rw [scaleB_apply]
  exact congrArg scale (row_block m h X s inb (y 0) _ (by show o + 1 * (y 0).val = _; omega))

/-- The scratch of inverse smoothing factors, read whole, is what it holds. -/
theorem held_whole (m : Memref sig .tc .vmem S1x4096 .f32) (h : m.IsWhole) (s : Vec Ideal S1x4096 .f32) :
    View.readAt (Elt Ideal) m.view (Rect.unit ![0, 0] S1x4096.size inb_S1x4096_S1x4096_0_0).toLoadRect (h.unread s) = s := by
  funext y
  rw [h.readAt_unread]
  refine congrArg s ?_
  funext a
  fin_cases a
  · exact Fin.ext (by show 0 + 1 * (y 0).val = (y 0).val; omega)
  · exact Fin.ext (by show 0 + 1 * (y 1).val = (y 1).val; omega)

/-- The fifth block's scales, cut at their broadcast, are the common block's. -/
theorem scaleB_stored (x : Vec Ideal S32x4096 .bf16) (s : Vec Ideal S1x4096 .f32) :
    k0_pay28 (k0_pay27 (k0_pay24 x s)) = scaleB x s := by
  unfold k0_pay28 k0_pay27 scaleB k0_pay7
  rfl

section B

variable (c : Dev nD) (arg1 : Memref sig .tc .vmem S512x4096 .bf16) (h1 : arg1.IsWhole)
  (arg8 : Memref sig .tc .vmem S1x4096 .f32) (h8 : arg8.IsWhole)
  (X : Vec Ideal S512x4096 .bf16) (s : Vec Ideal S1x4096 .f32)

/-- Case B: the sixteen stores of codes are blocks of the 512 rows' codes. -/
theorem codes_B : View.PiecesOf (codes (n := 512) X s) (kernelRun0_B.sl.H5_16 (F := Ideal) c arg1 h1 arg8 h8 X s) := by
  conv => arg 1; rw [← held_whole arg8 h8 s]
  refine ⟨?_, ?_, ?_, ?_, ?_, ?_, ?_, ?_, ?_, ?_, ?_, ?_, ?_, ?_, ?_, ?_, trivial⟩ <;>
    exact fun y => codes_piece arg1 h1 X _ _ y

/-- Case B: the sixteen stores of scales are blocks of the 512 rows' scales. -/
theorem scales_B : View.PiecesOf (scales X s) (kernelRun0_B.sl.HS1_16 (F := Ideal) c arg1 h1 arg8 h8 X s) := by
  conv => arg 1; rw [← held_whole arg8 h8 s]
  refine ⟨?_, ?_, ?_, ?_, ?_, ?_, ?_, ?_, ?_, ?_, ?_,
    fun y => (congrFun (scaleB_stored _ _) y).trans
      (scales_piece arg1 h1 X _ inb_S512x4096_S32x4096_128_0 inb_S512x128_S32x128_128_0 y), ?_, ?_, ?_, ?_, trivial⟩ <;>
    exact fun y => Eq.trans (congrFun (by rfl) y) (scales_piece arg1 h1 X _ _ (by decide) y)

end B

section A

variable (c : Dev nD) (arg1 : Memref sig .tc .vmem S512x4096 .bf16) (h1 : arg1.IsWhole)
  (arg2 : Memref sig .tc .vmem S1x4096 .f32) (h2 : arg2.IsWhole) (arg8 : Memref sig .tc .vmem S1x4096 .f32)
  (X : Vec Ideal S512x4096 .bf16) (s : Vec Ideal S1x4096 .f32)

/-- Case A: the scratch of inverse smoothing factors, filled at this point and read back. -/
theorem filled_A : kernelRun0_A.sl.v5 (F := Ideal) c arg2 h2 arg8 s = k0_pay2 s := by
  unfold kernelRun0_A.sl.v5
  frame_out

/-- Case A: the sixteen stores of codes are blocks of the 512 rows' codes. -/
theorem codes_A : View.PiecesOf (codes (n := 512) X (k0_pay2 s))
    (kernelRun0_A.sl.H5_16 (F := Ideal) c arg1 h1 arg2 h2 arg8 X s) := by
  rw [← filled_A c arg2 h2 arg8 s]
  refine ⟨?_, ?_, ?_, ?_, ?_, ?_, ?_, ?_, ?_, ?_, ?_, ?_, ?_, ?_, ?_, ?_, trivial⟩ <;>
    exact fun y => codes_piece arg1 h1 X _ _ y

/-- Case A: the sixteen stores of scales are blocks of the 512 rows' scales. -/
theorem scales_A : View.PiecesOf (scales X (k0_pay2 s))
    (kernelRun0_A.sl.HS1_16 (F := Ideal) c arg1 h1 arg2 h2 arg8 X s) := by
  rw [← filled_A c arg2 h2 arg8 s]
  refine ⟨?_, ?_, ?_, ?_, ?_, ?_, ?_, ?_, ?_, ?_, ?_,
    fun y => (congrFun (scaleB_stored _ _) y).trans
      (scales_piece arg1 h1 X _ inb_S512x4096_S32x4096_128_0 inb_S512x128_S32x128_128_0 y), ?_, ?_, ?_, ?_, trivial⟩ <;>
    exact fun y => Eq.trans (congrFun (by rfl) y) (scales_piece arg1 h1 X _ _ (by decide) y)

end A

end Cert.KernelIdeal.Hand

end
-- ==== Proof.Point.lean ====
/-
  What one point of the kernel's grid leaves in its three output blocks: the codes, the scales as a row, and the product of
  the codes with the weights, scaled back.
-/
module

public import proofs.«01_k».proof.Proof.Block

@[expose] public section

set_option maxRecDepth 16384

noncomputable section

open Idealize.ShloMosaic Idealize.ShloMosaic.TcCoe Idealize.ShloMosaic.Tactic Idealize.SL.Sem

namespace Cert.KernelIdeal.Hand

open Cert.KernelIdeal Cert.KernelIdeal.Gen Cert.Row

/-- The scales of 512 rows as one row: the block the point writes. -/
def scaleRow (X : Vec Ideal S512x4096 .bf16) (s : Vec Ideal S1x4096 .f32) : Vec Ideal S1x1x512 .f32 :=
  fun y => scale (row X s (y 2))

/-- The codes' product with the weights, times the row's scale and the column's weight scale. -/
def product (X : Vec Ideal S512x4096 .bf16) (s : Vec Ideal S1x4096 .f32) (W : Vec Ideal S4096x3072 .fp8e4m3)
    (ws : Vec Ideal S1x3072 .f32) : Vec Ideal S512x3072 .bf16 := fun y =>
  (∑ k : Fin 4096, codes (n := 512) X s (ix2 (y 0) k) * W (ix2 k (y 1))) * scale (row X s (y 0)) * ws (ix2 0 (y 1))

/-- Stores that are blocks of `G` and cover the buffer, loaded: the load of `G`. -/
theorem load_of_pieces {sp : Space} {σ : Shape} {e : EltTy} (v : View sig .tc sp σ e) (G : σ.Idx → Elt Ideal e)
    (L : List (View.Piece (Elt Ideal) σ e)) (h : View.PiecesOf G L)
    (hc : ∀ y, ∃ p ∈ L, y ∈ p.1.set) (B : LoadRect σ) :
    v.readCov L B = fun j => G (B.idx j) := by
  rw [View.readCov_eq_canon']
  exact funext fun j => View.canon_apply_of_pieces G L h.mem _ (hc _)

/-- Stores that are blocks of `G` and cover the buffer, read back: `G`. -/
theorem read_of_pieces {sp : Space} {σ : Shape} {e : EltTy} (v : View sig .tc sp σ e) (G : σ.Idx → Elt Ideal e)
    (L : List (View.Piece (Elt Ideal) σ e)) (h : View.PiecesOf G L)
    (hc : ∀ y, ∃ p ∈ L, y ∈ p.1.set) :
    v.read (Elt Ideal) (v.writes (Elt Ideal) v.junk L) = G := by
  rw [View.read_writes_junk_eq_canon]
  exact funext fun j => View.canon_apply_of_pieces G L h.mem _ (hc _)

/-- The codes' block, covered by stores that are blocks of the codes and loaded whole, is the codes. -/
theorem load_codes {sp : Space} (v : View sig .tc sp S512x4096 .fp8e4m3) (X : Vec Ideal S512x4096 .bf16)
    (s : Vec Ideal S1x4096 .f32) (L : List (View.Piece (Elt Ideal) S512x4096 .fp8e4m3))
    (h : View.PiecesOf (codes (n := 512) X s) L) (hc : ∀ y, ∃ p ∈ L, y ∈ p.1.set) :
    v.readCov L (Rect.unit (s := S512x4096) ![0, 0] S512x4096.size inb_S512x4096_S512x4096_0_0).toLoadRect
      = codes (n := 512) X s := by
  rw [load_of_pieces v _ L h hc]
  funext j
  refine congrArg (codes (n := 512) X s) ?_
  funext a
  fin_cases a
  · exact Fin.ext (by show 0 + 1 * (j 0).val = (j 0).val; omega)
  · exact Fin.ext (by show 0 + 1 * (j 1).val = (j 1).val; omega)

/-- Lane 0 of the scratch of scales, covered by stores that are blocks of the scales, is each row's scale. -/
theorem load_scale {sp : Space} (v : View sig .tc sp S512x128 .f32) (X : Vec Ideal S512x4096 .bf16)
    (s : Vec Ideal S1x4096 .f32) (L : List (View.Piece (Elt Ideal) S512x128 .f32))
    (h : View.PiecesOf (scales X s) L) (hc : ∀ y, ∃ p ∈ L, y ∈ p.1.set) (p : Fin 512) :
    v.readCov L (Rect.unit (s := S512x128) ![0, 0] S512x1.size inb_S512x128_S512x1_0_0).toLoadRect (ix2 p 0)
      = scale (row X s p) := by
  rw [load_of_pieces v _ L h hc]
  exact congrArg (fun q => scale (row X s q)) (Fin.ext (by show 0 + 1 * p.val = p.val; omega))

/-- A 128-by-128 tile turned and cut to its first row is its first lane. -/
theorem pay92_apply (V : Vec Ideal S128x128 .f32) (y : S1x1x128.Idx) : k0_pay92 V y = V (ix2 (y 2) 0) := by
  unfold k0_pay92
  pointwise

/-- One of the four stores of scales: lane 0 of 128 rows of the scratch of scales, turned into a row. -/
theorem scaleRow_piece (X : Vec Ideal S512x4096 .bf16) (s : Vec Ideal S1x4096 .f32) {o : ℕ}
    (inb : ∀ a, (![o, 0] : Fin 2 → ℕ) a + S128x128.size a ≤ S512x128.size a)
    (inb' : ∀ a, (![0, 0, o] : Fin 3 → ℕ) a + S1x1x128.size a ≤ S1x1x512.size a) (V : Vec Ideal S128x128 .f32)
    (hV : V = fun j => scales X s ((Rect.unit (s := S512x128) ![o, 0] S128x128.size inb).toLoadRect.idx j)) (y : S1x1x128.Idx) :
    k0_pay92 V y = scaleRow X s ((Rect.unit (s := S1x1x512) ![0, 0, o] S1x1x128.size inb').emb y) := by
  rw [pay92_apply, hV]
  refine congrArg (fun p => scale (row X s p)) (Fin.ext ?_)
  show o + 1 * (y 2).val = o + 1 * (y 2).val
  rfl

/-- One of the six stores of the product: 512 of its columns. -/
theorem product_piece (X : Vec Ideal S512x4096 .bf16) (s : Vec Ideal S1x4096 .f32)
    (mW : Memref sig .tc .vmem S4096x3072 .fp8e4m3) (hW : mW.IsWhole) (W : Vec Ideal S4096x3072 .fp8e4m3)
    (mw : Memref sig .tc .vmem S1x3072 .f32) (hw : mw.IsWhole) (ws : Vec Ideal S1x3072 .f32) {o : ℕ}
    (inb : ∀ a, (![0, o] : Fin 2 → ℕ) a + S4096x512.size a ≤ S4096x3072.size a)
    (inb1 : ∀ a, (![0, o] : Fin 2 → ℕ) a + S1x512.size a ≤ S1x3072.size a)
    (inb2 : ∀ a, (![0, o] : Fin 2 → ℕ) a + S512x512.size a ≤ S512x3072.size a)
    (C : Vec Ideal S512x4096 .fp8e4m3) (hC : C = codes (n := 512) X s)
    (S : Vec Ideal S512x1 .f32) (hS : ∀ p : Fin 512, S (ix2 p 0) = scale (row X s p)) (y : S512x512.Idx) :
    k0_pay96 C (View.readAt (Elt Ideal) mW.view (Rect.unit (s := S4096x3072) ![0, o] S4096x512.size inb).toLoadRect (hW.unread W))
        S (View.readAt (Elt Ideal) mw.view (Rect.unit (s := S1x3072) ![0, o] S1x512.size inb1).toLoadRect (hw.unread ws)) y
      = product X s W ws ((Rect.unit (s := S512x3072) ![0, o] S512x512.size inb2).emb y) := by
  subst hC
  unfold k0_pay96
  pointwise
  have e0 : (Rect.unit (s := S512x3072) ![0, o] S512x512.size inb2).emb y 0 = y 0 :=
    Fin.ext (by show 0 + 1 * (y 0).val = (y 0).val; omega)
  have e1 : ((Rect.unit (s := S512x3072) ![0, o] S512x512.size inb2).emb y 1).val = o + 1 * (y 1).val := rfl
  have eW : ∀ k, View.readAt (Elt Ideal) mW.view (Rect.unit (s := S4096x3072) ![0, o] S4096x512.size inb).toLoadRect
      (hW.unread W) (ix2 k (y 1)) = W (ix2 k ((Rect.unit (s := S512x3072) ![0, o] S512x512.size inb2).emb y 1)) := by
    intro k
    rw [hW.readAt_unread]
    refine congrArg W ?_
    funext a
    fin_cases a
    · exact Fin.ext (by show 0 + 1 * k.val = k.val; omega)
    · exact Fin.ext e1.symm
  have ew : View.readAt (Elt Ideal) mw.view (Rect.unit (s := S1x3072) ![0, o] S1x512.size inb1).toLoadRect
      (hw.unread ws) (ix2 0 (y 1)) = ws (ix2 0 ((Rect.unit (s := S512x3072) ![0, o] S512x512.size inb2).emb y 1)) := by
    rw [hw.readAt_unread]
    refine congrArg ws ?_
    funext a
    fin_cases a
    · rfl
    · exact Fin.ext e1.symm
  unfold product
  rw [e0]
  exact congrArg₂ (· * ·) (congrArg₂ (· * ·) (Finset.sum_congr rfl fun k _ => congrArg _ (eW k)) (hS (y 0))) ew

section B

variable (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S4096x3072 .fp8e4m3) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x4096 .fp8e4m3) (harg6 : arg6.IsWhole) (arg7 : Memref sig .tc .vmem S1x1x512 .f32) (harg7 : arg7.IsWhole) (arg8 : Memref sig .tc .vmem S1x4096 .f32) (harg8 : arg8.IsWhole) (arg9 : Memref sig .tc .vmem S512x128 .f32) (harg9 : arg9.IsWhole) (hc0 : ¬cond0_0 i)
  (x0 : Vec Ideal S512x4096 .bf16) (x1 : Vec Ideal S1x4096 .f32) (x2 : Vec Ideal S4096x3072 .fp8e4m3) (x3 : Vec Ideal S1x3072 .f32) (xs0 : Vec Ideal S1x4096 .f32)

/-- Case B: the block of codes. -/
theorem out_B_5 : out0_B_5 c i arg1 harg1 arg2 harg2 arg3 harg3 arg4 harg4 arg5 harg5 arg6 harg6 arg7 harg7 arg8 harg8 arg9 harg9 hc0 x0 x1 x2 x3 xs0
    = codes (n := 512) x0 xs0 :=
  read_of_pieces _ _ _ (codes_B c arg1 harg1 arg8 harg8 x0 xs0) (cover0_B_5 c i arg1 harg1 arg2 harg2 arg3 harg3 arg4 harg4 arg5 harg5 arg6 harg6 arg7 harg7 arg8 harg8 arg9 harg9 hc0 x0 x1 x2 x3 xs0)

/-- Case B: the sixteen stores of scales cover their scratch. -/
theorem scales_cover_B (y : S512x128.Idx) : ∃ p ∈ kernelRun0_B.sl.HS1_16 (F := Ideal) c arg1 harg1 arg8 harg8 x0 xs0, y ∈ p.1.set :=
  View.cover_of_tiledL (kernelRun0_B.sl.HS1_16 (F := Ideal) c arg1 harg1 arg8 harg8 x0 xs0) S32x128.size (by sl_kernel_rfl) y

/-- Case B: the block of scales. -/
theorem out_B_6 : out0_B_6 c i arg1 harg1 arg2 harg2 arg3 harg3 arg4 harg4 arg5 harg5 arg6 harg6 arg7 harg7 arg8 harg8 arg9 harg9 hc0 x0 x1 x2 x3 xs0
    = scaleRow x0 xs0 := by
  refine read_of_pieces _ _ _ ?_ (cover0_B_6 c i arg1 harg1 arg2 harg2 arg3 harg3 arg4 harg4 arg5 harg5 arg6 harg6 arg7 harg7 arg8 harg8 arg9 harg9 hc0 x0 x1 x2 x3 xs0)
  have e := load_of_pieces arg9.view _ _ (scales_B c arg1 harg1 arg8 harg8 x0 xs0) (scales_cover_B c arg1 harg1 arg8 harg8 x0 xs0)
  exact ⟨fun y => scaleRow_piece x0 xs0 inb_S512x128_S128x128_384_0 inb_S1x1x512_S1x1x128_0_0_384 (kernelRun0_B.sl.v949 c arg1 harg1 arg8 harg8 arg9 x0 xs0) (e _) y,
    fun y => scaleRow_piece x0 xs0 inb_S512x128_S128x128_256_0 inb_S1x1x512_S1x1x128_0_0_256 (kernelRun0_B.sl.v943 c arg1 harg1 arg8 harg8 arg9 x0 xs0) (e _) y,
    fun y => scaleRow_piece x0 xs0 inb_S512x128_S128x128_128_0 inb_S1x1x512_S1x1x128_0_0_128 (kernelRun0_B.sl.v937 c arg1 harg1 arg8 harg8 arg9 x0 xs0) (e _) y,
    fun y => scaleRow_piece x0 xs0 inb_S512x128_S128x128_0_0 inb_S1x1x512_S1x1x128_0_0_0 (kernelRun0_B.sl.v931 c arg1 harg1 arg8 harg8 arg9 x0 xs0) (e _) y, trivial⟩

/-- Case B: the block of the product. -/
theorem out_B_4 : out0_B_4 c i arg1 harg1 arg2 harg2 arg3 harg3 arg4 harg4 arg5 harg5 arg6 harg6 arg7 harg7 arg8 harg8 arg9 harg9 hc0 x0 x1 x2 x3 xs0
    = product x0 xs0 x2 x3 := by
  refine read_of_pieces _ _ _ ?_ (cover0_B_4 c i arg1 harg1 arg2 harg2 arg3 harg3 arg4 harg4 arg5 harg5 arg6 harg6 arg7 harg7 arg8 harg8 arg9 harg9 hc0 x0 x1 x2 x3 xs0)
  have eC := load_codes arg6.view _ _ _ (codes_B c arg1 harg1 arg8 harg8 x0 xs0) (cover0_B_5 c i arg1 harg1 arg2 harg2 arg3 harg3 arg4 harg4 arg5 harg5 arg6 harg6 arg7 harg7 arg8 harg8 arg9 harg9 hc0 x0 x1 x2 x3 xs0)
  have eS := load_scale arg9.view _ _ _ (scales_B c arg1 harg1 arg8 harg8 x0 xs0) (scales_cover_B c arg1 harg1 arg8 harg8 x0 xs0)
  refine ⟨?_, ?_, ?_, ?_, ?_, ?_, trivial⟩ <;>
    exact fun y => product_piece x0 xs0 arg3 harg3 x2 arg4 harg4 x3 _ _ (by decide) _ eC _ eS y

end B

section A

variable (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S4096x3072 .fp8e4m3) (harg3 : arg3.IsWhole) (arg4 : Memref sig .tc .vmem S1x3072 .f32) (harg4 : arg4.IsWhole) (arg5 : Memref sig .tc .vmem S512x3072 .bf16) (harg5 : arg5.IsWhole) (arg6 : Memref sig .tc .vmem S512x4096 .fp8e4m3) (harg6 : arg6.IsWhole) (arg7 : Memref sig .tc .vmem S1x1x512 .f32) (harg7 : arg7.IsWhole) (arg8 : Memref sig .tc .vmem S1x4096 .f32) (harg8 : arg8.IsWhole) (arg9 : Memref sig .tc .vmem S512x128 .f32) (harg9 : arg9.IsWhole) (hc0 : cond0_0 i)
  (x0 : Vec Ideal S512x4096 .bf16) (x1 : Vec Ideal S1x4096 .f32) (x2 : Vec Ideal S4096x3072 .fp8e4m3) (x3 : Vec Ideal S1x3072 .f32)

/-- Case A: the block of codes. -/
theorem out_A_5 : out0_A_5 c i arg1 harg1 arg2 harg2 arg3 harg3 arg4 harg4 arg5 harg5 arg6 harg6 arg7 harg7 arg8 harg8 arg9 harg9 hc0 x0 x1 x2 x3
    = codes (n := 512) x0 (k0_pay2 x1) :=
  read_of_pieces _ _ _ (codes_A c arg1 harg1 arg2 harg2 arg8 x0 x1) (cover0_A_5 c i arg1 harg1 arg2 harg2 arg3 harg3 arg4 harg4 arg5 harg5 arg6 harg6 arg7 harg7 arg8 harg8 arg9 harg9 hc0 x0 x1 x2 x3)

/-- Case A: the sixteen stores of scales cover their scratch. -/
theorem scales_cover_A (y : S512x128.Idx) : ∃ p ∈ kernelRun0_A.sl.HS1_16 (F := Ideal) c arg1 harg1 arg2 harg2 arg8 x0 x1, y ∈ p.1.set :=
  View.cover_of_tiledL (kernelRun0_A.sl.HS1_16 (F := Ideal) c arg1 harg1 arg2 harg2 arg8 x0 x1) S32x128.size (by sl_kernel_rfl) y

/-- Case A: the block of scales. -/
theorem out_A_6 : out0_A_6 c i arg1 harg1 arg2 harg2 arg3 harg3 arg4 harg4 arg5 harg5 arg6 harg6 arg7 harg7 arg8 harg8 arg9 harg9 hc0 x0 x1 x2 x3
    = scaleRow x0 (k0_pay2 x1) := by
  refine read_of_pieces _ _ _ ?_ (cover0_A_6 c i arg1 harg1 arg2 harg2 arg3 harg3 arg4 harg4 arg5 harg5 arg6 harg6 arg7 harg7 arg8 harg8 arg9 harg9 hc0 x0 x1 x2 x3)
  have e := load_of_pieces arg9.view _ _ (scales_A c arg1 harg1 arg2 harg2 arg8 x0 x1) (scales_cover_A c arg1 harg1 arg2 harg2 arg8 x0 x1)
  exact ⟨fun y => scaleRow_piece x0 (k0_pay2 x1) inb_S512x128_S128x128_384_0 inb_S1x1x512_S1x1x128_0_0_384 (kernelRun0_A.sl.v949 c arg1 harg1 arg2 harg2 arg8 arg9 x0 x1) (e _) y,
    fun y => scaleRow_piece x0 (k0_pay2 x1) inb_S512x128_S128x128_256_0 inb_S1x1x512_S1x1x128_0_0_256 (kernelRun0_A.sl.v943 c arg1 harg1 arg2 harg2 arg8 arg9 x0 x1) (e _) y,
    fun y => scaleRow_piece x0 (k0_pay2 x1) inb_S512x128_S128x128_128_0 inb_S1x1x512_S1x1x128_0_0_128 (kernelRun0_A.sl.v937 c arg1 harg1 arg2 harg2 arg8 arg9 x0 x1) (e _) y,
    fun y => scaleRow_piece x0 (k0_pay2 x1) inb_S512x128_S128x128_0_0 inb_S1x1x512_S1x1x128_0_0_0 (kernelRun0_A.sl.v931 c arg1 harg1 arg2 harg2 arg8 arg9 x0 x1) (e _) y, trivial⟩

/-- Case A: the block of the product. -/
theorem out_A_4 : out0_A_4 c i arg1 harg1 arg2 harg2 arg3 harg3 arg4 harg4 arg5 harg5 arg6 harg6 arg7 harg7 arg8 harg8 arg9 harg9 hc0 x0 x1 x2 x3
    = product x0 (k0_pay2 x1) x2 x3 := by
  refine read_of_pieces _ _ _ ?_ (cover0_A_4 c i arg1 harg1 arg2 harg2 arg3 harg3 arg4 harg4 arg5 harg5 arg6 harg6 arg7 harg7 arg8 harg8 arg9 harg9 hc0 x0 x1 x2 x3)
  have eC := load_codes arg6.view _ _ _ (codes_A c arg1 harg1 arg2 harg2 arg8 x0 x1) (cover0_A_5 c i arg1 harg1 arg2 harg2 arg3 harg3 arg4 harg4 arg5 harg5 arg6 harg6 arg7 harg7 arg8 harg8 arg9 harg9 hc0 x0 x1 x2 x3)
  have eS := load_scale arg9.view _ _ _ (scales_A c arg1 harg1 arg2 harg2 arg8 x0 x1) (scales_cover_A c arg1 harg1 arg2 harg2 arg8 x0 x1)
  refine ⟨?_, ?_, ?_, ?_, ?_, ?_, trivial⟩ <;>
    exact fun y => product_piece x0 (k0_pay2 x1) arg3 harg3 x2 arg4 harg4 x3 _ _ (by decide) _ eC _ eS y

end A

end Cert.KernelIdeal.Hand

end
-- ==== Proof.KernelValue.lean ====
/-
  The kernel's three result arrays, from the contents its one region finds: the row functions over all 12288 rows, with
  the inverse smoothing factors `1 / s`.
-/
module

public import proofs.«01_k».proof.Proof.Point
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Row

/-- The product's array over all rows. -/
def productAll (X : (⟨2, ![12288, 4096]⟩ : Shape).Idx → EReal) (s : (⟨2, ![1, 4096]⟩ : Shape).Idx → EReal)
    (W : (⟨2, ![4096, 3072]⟩ : Shape).Idx → EReal) (ws : (⟨2, ![1, 3072]⟩ : Shape).Idx → EReal) :
    (⟨2, ![12288, 3072]⟩ : Shape).Idx → EReal := fun y =>
  (∑ k : Fin 4096, codes (n := 12288) X s (ix2 (y 0) k) * W (ix2 k (y 1))) * scale (row X s (y 0)) * ws (ix2 0 (y 1))

/-- The row whose scale is at `(g, 0, p)` of the scales' array. -/
def rowAt (y : (⟨3, ![24, 1, 512]⟩ : Shape).Idx) : Fin 12288 :=
  ⟨(y 0).val * 512 + (y 2).val, by have h0 : (y 0).val < 24 := (y 0).isLt; have h2 : (y 2).val < 512 := (y 2).isLt; omega⟩

/-- The scales' array over all rows. -/
def scaleAll (X : (⟨2, ![12288, 4096]⟩ : Shape).Idx → EReal) (s : (⟨2, ![1, 4096]⟩ : Shape).Idx → EReal) :
    (⟨3, ![24, 1, 512]⟩ : Shape).Idx → EReal := fun y => scale (row X s (rowAt y))

end Cert.Row

namespace Cert.KernelIdeal.Hand

open Cert.KernelIdeal Cert.KernelIdeal.Gen Cert.Row

variable (m : (ℓ : Loc nD τ sig) → Buf (Elt Ideal) ℓ)

/-- The rows the region finds. -/
abbrev X (c : Dev nD) : Vec Ideal S12288x4096 .bf16 := V m c main_v0
/-- The smoothing factors the region finds. -/
abbrev S (c : Dev nD) : Vec Ideal S1x4096 .f32 := V m c main_v1
/-- The weights the region finds. -/
abbrev W (c : Dev nD) : Vec Ideal S4096x3072 .fp8e4m3 := V m c main_arg2
/-- The weights' scales the region finds. -/
abbrev WS (c : Dev nD) : Vec Ideal S1x3072 .f32 := V m c main_v2

/-- The inverse smoothing factors. -/
def inverse (c : Dev nD) : Vec Ideal S1x4096 .f32 := k0_pay2 (S m c)

/-- A code depends on its row and its place in the row only. -/
theorem codes_eq {n n' : ℕ} {X : Vec Ideal ⟨2, ![n, 4096]⟩ .f32} {X' : Vec Ideal ⟨2, ![n', 4096]⟩ .f32}
    {s : Vec Ideal S1x4096 .f32} {y : Shape.Idx ⟨2, ![n, 4096]⟩} {y' : Shape.Idx ⟨2, ![n', 4096]⟩}
    (h0 : row (n := n) X s (y 0) = row (n := n') X' s (y' 0)) (h1 : y 1 = (y' 1 : Fin 4096)) :
    codes (n := n) X s y = codes (n := n') X' s y' := by
  show clip (inv (row (n := n) X s (y 0))) (row (n := n) X s (y 0) (y 1))
    = clip (inv (row (n := n') X' s (y' 0))) (row (n := n') X' s (y' 0) (y' 1))
  rw [h0, h1]

/-- Row `p` of point `t`'s rows is row `512 t + p`. -/
theorem in_0 (c : Dev nD) (t : Fin cfg0.N) (y : S512x4096.Idx) (q : Fin 12288) (hq : q.val = t.val * 512 + (y 0).val) :
    iblk m c 0 t y = X m c (ix2 q (y 1)) := by
  have e := ((by decide +kernel : ∀ t : Fin cfg0.N, win0_0.index t 0 = t.val ∧ win0_0.index t 1 = 0) t)
  refine congrArg (V m c main_v0) ?_
  funext a
  fin_cases a
  · refine Fin.ext ?_
    show win0_0.index t 0 * 512 + 1 * (y 0).val = q.val
    rw [e.1, hq]; omega
  · refine Fin.ext ?_
    show win0_0.index t 1 * 4096 + 1 * (y 1).val = (y 1).val
    rw [e.2]; omega

/-- Every point's block of smoothing factors is all of them. -/
theorem in_1 (c : Dev nD) (t : Fin cfg0.N) : iblk m c 1 t = S m c := by
  have e := ((by decide +kernel : ∀ t : Fin cfg0.N, win0_1.index t 0 = 0 ∧ win0_1.index t 1 = 0) t)
  funext y
  refine congrArg (V m c main_v1) ?_
  funext a
  fin_cases a
  · refine Fin.ext ?_
    show win0_1.index t 0 * 1 + 1 * (y 0).val = (y 0).val
    rw [e.1]; omega
  · refine Fin.ext ?_
    show win0_1.index t 1 * 4096 + 1 * (y 1).val = (y 1).val
    rw [e.2]; omega

/-- Every point's block of weights is all of them. -/
theorem in_2 (c : Dev nD) (t : Fin cfg0.N) : iblk m c 2 t = W m c := by
  have e := ((by decide +kernel : ∀ t : Fin cfg0.N, win0_2.index t 0 = 0 ∧ win0_2.index t 1 = 0) t)
  funext y
  refine congrArg (V m c main_arg2) ?_
  funext a
  fin_cases a
  · refine Fin.ext ?_
    show win0_2.index t 0 * 4096 + 1 * (y 0).val = (y 0).val
    rw [e.1]; omega
  · refine Fin.ext ?_
    show win0_2.index t 1 * 3072 + 1 * (y 1).val = (y 1).val
    rw [e.2]; omega

/-- Every point's block of weight scales is all of them. -/
theorem in_3 (c : Dev nD) (t : Fin cfg0.N) : iblk m c 3 t = WS m c := by
  have e := ((by decide +kernel : ∀ t : Fin cfg0.N, win0_3.index t 0 = 0 ∧ win0_3.index t 1 = 0) t)
  funext y
  refine congrArg (V m c main_v2) ?_
  funext a
  fin_cases a
  · refine Fin.ext ?_
    show win0_3.index t 0 * 1 + 1 * (y 0).val = (y 0).val
    rw [e.1]; omega
  · refine Fin.ext ?_
    show win0_3.index t 1 * 3072 + 1 * (y 1).val = (y 1).val
    rw [e.2]; omega

/-- The first point fills the carried scratch with the inverse smoothing factors. -/
theorem scratch_A (c : Dev nD) (t : Fin cfg0.N) (h0 : t.val % 24 = 0) :
    (outsAt0 m c t.val t.isLt).2.2.2 = inverse m c := by
  rw [outsAt0_A m c t h0]
  dsimp only
  funext y
  frame_out
  rw [in_1]
  rfl

/-- After every point the carried scratch holds the inverse smoothing factors. -/
theorem scratch (c : Dev nD) : ∀ (n : ℕ) (hn : n < cfg0.N), (outsAt0 m c n hn).2.2.2 = inverse m c
  | 0, hn => scratch_A m c ⟨0, hn⟩ rfl
  | n + 1, hn => by
    have hN : n + 1 < 24 := lt_of_lt_of_eq hn (show cfg0.N = 24 from N_0)
    rw [outsAt0_B m c ⟨n + 1, hn⟩ (by show ¬(n + 1) % 24 = 0; omega)]
    exact scratch c n (Nat.lt_of_succ_lt hn)

/-- What every point leaves in the three output blocks. -/
theorem out (c : Dev nD) (t : Fin cfg0.N) :
    (outsAt0 m c t.val t.isLt).1 = product (iblk m c 0 t) (inverse m c) (W m c) (WS m c)
    ∧ (outsAt0 m c t.val t.isLt).2.1 = codes (n := 512) (iblk m c 0 t) (inverse m c)
    ∧ (outsAt0 m c t.val t.isLt).2.2.1 = scaleRow (iblk m c 0 t) (inverse m c) := by
  by_cases h0 : t.val % 24 = 0
  · rw [outsAt0_A m c t h0]
    dsimp only
    rw [out_A_4, out_A_5, out_A_6, in_1, in_2, in_3]
    exact ⟨rfl, rfl, rfl⟩
  · rw [outsAt0_B m c t h0]
    dsimp only
    rw [out_B_4, out_B_5, out_B_6, in_2, in_3, scratch]
    exact ⟨rfl, rfl, rfl⟩

/-- A row of point `t`'s block, as a row of all the rows. -/
theorem row_in (c : Dev nD) (t : Fin cfg0.N) (s : Vec Ideal S1x4096 .f32) (p : Fin 512) (q : Fin 12288)
    (hq : q.val = t.val * 512 + p.val) : row (n := 512) (iblk m c 0 t) s p = row (n := 12288) (X m c) s q := by
  funext k
  exact congrArg (· * s (ix2 0 k)) (in_0 m c t (ix2 p k) q hq)

/-- The codes' array after the run. -/
theorem final_5 (c : Dev nD) : (dats m 0 c).arrAt 5 cfg0.N = codes (n := 12288) (X m c) (inverse m c) := by
  refine (dats m 0 c).arrAt_eq_of_covers 5 _ (by decide +kernel) fun t hf y => ?_
  have e := ((by decide +kernel : ∀ t : Fin cfg0.N, win0_5.index t 0 = t.val ∧ win0_5.index t 1 = 0) t)
  blk_simp
  rw [after0_5, (out m c t).2.1]
  have e0 : ((win0_5.blk t).view.emb y 0).val = t.val * 512 + (y 0).val := by
    show win0_5.index t 0 * 512 + 1 * (y 0).val = _
    rw [e.1]; omega
  have e1 : (win0_5.blk t).view.emb y 1 = y 1 := Fin.ext <| by
    show win0_5.index t 1 * 4096 + 1 * (y 1).val = _
    rw [e.2]; omega
  exact codes_eq (row_in m c t _ (y 0) _ e0) e1.symm

/-- The scales' array after the run. -/
theorem final_6 (c : Dev nD) : (dats m 0 c).arrAt 6 cfg0.N = scaleAll (X m c) (inverse m c) := by
  refine (dats m 0 c).arrAt_eq_of_covers 6 _ (by decide +kernel) fun t hf y => ?_
  have e := ((by decide +kernel : ∀ t : Fin cfg0.N, win0_6.index t 0 = t.val ∧ win0_6.index t 1 = 0 ∧ win0_6.index t 2 = 0) t)
  blk_simp
  rw [after0_6, (out m c t).2.2]
  have y0 : (y 0).val < 1 := (y 0).isLt
  have e0 : ((win0_6.blk t).view.emb y 0).val = t.val := by
    show win0_6.index t 0 * 1 + 1 * (y 0).val = _
    rw [e.1]; omega
  have e2 : ((win0_6.blk t).view.emb y 2).val = (y 2).val := by
    show win0_6.index t 2 * 512 + 1 * (y 2).val = _
    rw [e.2.2]; omega
  refine congrArg scale (row_in m c t _ (y 2) _ ?_)
  show ((win0_6.blk t).view.emb y 0).val * 512 + ((win0_6.blk t).view.emb y 2).val = _
  rw [e0, e2]

/-- The product's array after the run. -/
theorem final_4 (c : Dev nD) :
    (dats m 0 c).arrAt 4 cfg0.N = productAll (X m c) (inverse m c) (W m c) (WS m c) := by
  refine (dats m 0 c).arrAt_eq_of_covers 4 _ (by decide +kernel) fun t hf y => ?_
  have e := ((by decide +kernel : ∀ t : Fin cfg0.N, win0_4.index t 0 = t.val ∧ win0_4.index t 1 = 0) t)
  blk_simp
  rw [after0_4, (out m c t).1]
  have e0 : ((win0_4.blk t).view.emb y 0).val = t.val * 512 + (y 0).val := by
    show win0_4.index t 0 * 512 + 1 * (y 0).val = _
    rw [e.1]; omega
  have e1 : (win0_4.blk t).view.emb y 1 = y 1 := Fin.ext <| by
    show win0_4.index t 1 * 3072 + 1 * (y 1).val = _
    rw [e.2]; omega
  have hr := row_in m c t (inverse m c) (y 0) _ e0
  show (∑ k : Fin 4096, codes (n := 512) (iblk m c 0 t) (inverse m c) (ix2 (y 0) k) * W m c (ix2 k (y 1)))
      * scale (row (n := 512) (iblk m c 0 t) (inverse m c) (y 0)) * WS m c (ix2 0 (y 1))
    = (∑ k : Fin 4096, codes (n := 12288) (X m c) (inverse m c) (ix2 ((win0_4.blk t).view.emb y 0) k)
        * W m c (ix2 k ((win0_4.blk t).view.emb y 1)))
      * scale (row (n := 12288) (X m c) (inverse m c) ((win0_4.blk t).view.emb y 0))
      * WS m c (ix2 0 ((win0_4.blk t).view.emb y 1))
  rw [e1, ← hr]
  refine congrArg (fun q : EReal => q * _ * _) (Finset.sum_congr rfl fun k _ => congrArg (· * _) ?_)
  exact codes_eq hr rfl

end Cert.KernelIdeal.Hand

end
-- ==== Proof.RefRow.lean ====
/-
  The reference's rows: each value divided by its channel's smoothing factor, the scale `2 ^ e` with `e` the exponent of
  the row's largest magnitude, and the codes.
-/
module

public import proofs.«01_k».proof.Defs
public import proofs.«01_k».proof.Proof.Row
public import proofs.«01_k».proof.Proof.KernelValue
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.Row

open Cert.Scale

/-- Row `i`, each value divided by its channel's smoothing factor. -/
def drow (X : (⟨2, ![12288, 4096]⟩ : Shape).Idx → EReal) (s : (⟨2, ![1, 4096]⟩ : Shape).Idx → EReal) (i : Fin 12288) :
    Fin 4096 → EReal := fun k => Ideal.div (X (ix2 i k)) (s (ix2 0 k))

/-- The reference's scale of a row. -/
def rscale (f : Fin 4096 → EReal) : EReal := Ideal.exp2 (rexpo (tmax f))

/-- The reference's inverse scale of a row. -/
def rinv (f : Fin 4096 → EReal) : EReal := Ideal.exp2 (0 - rexpo (tmax f))

/-- The reference's codes. -/
def rcodes (X : (⟨2, ![12288, 4096]⟩ : Shape).Idx → EReal) (s : (⟨2, ![1, 4096]⟩ : Shape).Idx → EReal) :
    (⟨2, ![12288, 4096]⟩ : Shape).Idx → EReal := fun y => clip (rinv (drow X s (y 0))) (drow X s (y 0) (y 1))

end Cert.Row

namespace Cert.ReferenceIdeal.Hand

open Cert.ReferenceIdeal Cert.ReferenceIdeal.Gen Cert.Row

/-- The exponent of the values `M`, as printed: zero where `M` is zero, else zero where a 448th of it is zero or
    infinite, else `floor (log (M / 448) / log 2) + 1`. -/
def exponent (M : FVec Ideal S12288x1 .f32) : FVec Ideal S12288x1 .f32 :=
  select (cmpf .oeq M (broadcast S12288x1 (Scalar.ofBits .f32 0x00000000#32))) (broadcast S12288x1 (Scalar.ofBits .f32 0x00000000#32))
    (select (ori (cmpf .oeq (mulf M (broadcast S12288x1 (Scalar.ofBits .f32 0x3B124925#32))) (broadcast S12288x1 (Scalar.ofBits .f32 0x00000000#32)))
        (cmpf .oeq (mulf M (broadcast S12288x1 (Scalar.ofBits .f32 0x3B124925#32))) (broadcast S12288x1 (Scalar.ofBits .f32 0x7F800000#32))))
      (broadcast S12288x1 (Scalar.ofBits .f32 0x00000000#32))
      (addf (floor (divf (log (mulf M (broadcast S12288x1 (Scalar.ofBits .f32 0x3B124925#32))))
        (broadcast S12288x1 (Named.named κ "ln2" 0x3F317218#32)))) (broadcast S12288x1 (Scalar.ofBits .f32 0x3F800000#32))))

/-- The largest magnitude of each row of `V`, as printed. -/
def largest (V : FVec Ideal S12288x4096 .f32) : FVec Ideal S12288x1 .f32 :=
  shapeCast S12288x1 (multiReduction .maximumf [1] S12288 (absf V) 0xFF800000#32 reduces_S12288x4096_S12288 (.inl rfl) rfl)
    shapeCasts_S12288_S12288x1

/-- The printed exponents are those of the printed largest magnitudes. -/
theorem pay4_eq (x : Vec Ideal S12288x4096 .bf16) (s : Vec Ideal S1x4096 .f32) :
    k0_pay4 x s = exponent (largest (k0_pay3 x s)) := rfl

/-- The printed quotient at an index. -/
theorem pay3_apply (x : Vec Ideal S12288x4096 .bf16) (s : Vec Ideal S1x4096 .f32) (y : S12288x4096.Idx) :
    k0_pay3 x s y = Ideal.div (x y) (s (ix2 0 (y 1))) := by
  unfold k0_pay3
  pointwise

/-- The printed largest magnitude of a row is the row functions'. -/
theorem largest_apply (V : FVec Ideal S12288x4096 .f32) (y : S12288x1.Idx) :
    largest V y = amax fun k => V (ix2 (y 0) k) := by
  unfold largest
  pointwise
  rfl

/-- The logarithm of two, as the printed constant names it. -/
theorem ln2 : (Named.named (F := Ideal) κ "ln2" 0x3F317218#32 : Ideal .f32) = ((Real.log 2 : ℝ) : EReal) := rfl

/-- The printed exponent of a value. -/
theorem exponent_apply (M : FVec Ideal S12288x1 .f32) (y : S12288x1.Idx) :
    exponent M y = Scale.rexpo (M y * Ideal.ofBits .f32 0x3B124925#32) := by
  unfold exponent
  pointwise
  rw [ln2, show Ideal.ofBits .f32 2139095040#32 = ⊤ from Scale.word_top]
  unfold Scale.rexpo
  generalize hc : Ideal.ofBits .f32 991054117#32 = c
  by_cases h : M y = 0
  · rw [if_pos h, if_pos (Or.inl (by rw [h, zero_mul]))]
  · rw [if_neg h]
    by_cases h0 : M y * c = 0 <;> by_cases h1 : M y * c = ⊤ <;>
      simp only [h0, h1, decide_true, decide_false, true_or, or_true, or_self, if_true, if_false] <;> rfl

/-- The reference's exponent at a row. -/
theorem pay4_apply (x : Vec Ideal S12288x4096 .bf16) (s : Vec Ideal S1x4096 .f32) (y : S12288x1.Idx) :
    k0_pay4 x s y = Scale.rexpo (tmax (drow x s (y 0))) := by
  rw [pay4_eq, exponent_apply, largest_apply]
  refine congrArg (fun f => Scale.rexpo (amax f * Ideal.ofBits .f32 0x3B124925#32)) (funext fun k => ?_)
  exact pay3_apply x s (ix2 (y 0) k)

/-- A power of two, at an index. -/
theorem exp2_apply (P : FVec Ideal S12288x1 .f32) (y : S12288x1.Idx) : exp2 P y = Ideal.exp2 (P y) := rfl

/-- The printed scales are the powers of two of the printed exponents. -/
theorem pay5_eq (x : Vec Ideal S12288x4096 .bf16) (s : Vec Ideal S1x4096 .f32) : k0_pay5 x s = exp2 (k0_pay4 x s) := rfl

/-- The printed scales, over the exponents. -/
theorem pay5_apply (x : Vec Ideal S12288x4096 .bf16) (s : Vec Ideal S1x4096 .f32) (y : S12288x1.Idx) :
    k0_pay5 x s y = rscale (drow x s (y 0)) := by
  rw [pay5_eq, exp2_apply, pay4_apply]
  rfl

/-- Values scaled by a row's power of two and clipped, as printed. -/
def coded (V : FVec Ideal S12288x4096 .f32) (E : FVec Ideal S12288x1 .f32) : FVec Ideal S12288x4096 .fp8e4m3 :=
  truncf .fp8e4m3 (minimumf (broadcast S12288x4096 (Scalar.ofBits .f32 0x43E00000#32))
    (maximumf (broadcast S12288x4096 (Scalar.ofBits .f32 0xC3E00000#32))
      (mulf V (broadcastTo S12288x4096 (exp2 (subf (broadcast S12288x1 (Scalar.ofBits .f32 0x00000000#32)) E))
        broadcasts_S12288x1_S12288x4096)))) bitsLt_fp8e4m3_f32

/-- The printed codes are those of the printed quotients and exponents. -/
theorem pay6_eq (x : Vec Ideal S12288x4096 .bf16) (s : Vec Ideal S1x4096 .f32) :
    k0_pay6 x s = coded (k0_pay3 x s) (k0_pay4 x s) := rfl

/-- The printed code at an index. -/
theorem coded_apply (V : FVec Ideal S12288x4096 .f32) (E : FVec Ideal S12288x1 .f32) (y : S12288x4096.Idx) :
    coded V E y = clip (Ideal.exp2 (0 - E (ix2 (y 0) 0))) (V y) := by
  unfold coded
  pointwise
  rfl

/-- The reference's codes are the row functions' codes. -/
theorem pay6_apply (x : Vec Ideal S12288x4096 .bf16) (s : Vec Ideal S1x4096 .f32) (y : S12288x4096.Idx) :
    k0_pay6 x s y = rcodes x s y := by
  rw [pay6_eq, coded_apply, pay4_apply, pay3_apply]
  exact congrArg (fun z => clip (rinv (drow x s (y 0))) (Ideal.div (x z) (s (ix2 0 (y 1))))) (eq_ix2 y)

/-- The printed product, over opaque codes and scales. -/
theorem pay1_apply (S : FVec Ideal S12288x1 .f32) (C : FVec Ideal S12288x4096 .fp8e4m3) (W : Vec Ideal S4096x3072 .fp8e4m3)
    (ws : Vec Ideal S1x3072 .f32) (y : S12288x3072.Idx) :
    k0_pay1 S C W (constant S12288x3072 .f32 0x00000000#32) ws y
      = (∑ k : Fin 4096, C (ix2 (y 0) k) * W (ix2 k (y 1))) * S (ix2 (y 0) 0) * ws (ix2 0 (y 1)) := by
  unfold k0_pay1
  pointwise

/-- The scales laid out as 24 rows of 512. -/
theorem pay2_apply (S : FVec Ideal S12288x1 .f32) (y : S24x1x512.Idx) : k0_pay2 S y = S (ix2 (rowAt y) 0) := by
  unfold k0_pay2
  pointwise
  rfl

end Cert.ReferenceIdeal.Hand

end
-- ==== Proof.RefValue.lean ====
/-
  The reference's three result arrays, from the contents its one region finds, and the reference's run.
-/
module

public import proofs.«01_k».proof.Proof.RefRow

@[expose] public section

set_option maxRecDepth 16384

noncomputable section

open Idealize.ShloMosaic Idealize.ShloMosaic.TcCoe Idealize.SL.Sem

namespace Cert.Row

/-- The reference's product over all rows. -/
def rproduct (X : (⟨2, ![12288, 4096]⟩ : Shape).Idx → EReal) (s : (⟨2, ![1, 4096]⟩ : Shape).Idx → EReal)
    (W : (⟨2, ![4096, 3072]⟩ : Shape).Idx → EReal) (ws : (⟨2, ![1, 3072]⟩ : Shape).Idx → EReal) :
    (⟨2, ![12288, 3072]⟩ : Shape).Idx → EReal := fun y =>
  (∑ k : Fin 4096, rcodes X s (ix2 (y 0) k) * W (ix2 k (y 1))) * rscale (drow X s (y 0)) * ws (ix2 0 (y 1))

/-- The reference's scales over all rows. -/
def rscaleAll (X : (⟨2, ![12288, 4096]⟩ : Shape).Idx → EReal) (s : (⟨2, ![1, 4096]⟩ : Shape).Idx → EReal) :
    (⟨3, ![24, 1, 512]⟩ : Shape).Idx → EReal := fun y => rscale (drow X s (rowAt y))

end Cert.Row

namespace Cert.ReferenceIdeal.Hand

open Cert.ReferenceIdeal Cert.ReferenceIdeal.Gen Cert.Row

/-- Two zero offsets. -/
theorem zero2 : (![0, 0] : Fin 2 → ℕ) = fun _ => 0 := by funext a; fin_cases a <;> rfl

/-- Three zero offsets. -/
theorem zero3 : (![0, 0, 0] : Fin 3 → ℕ) = fun _ => 0 := by funext a; fin_cases a <;> rfl

/-- The body's codes, from the blocks it reads. -/
theorem out_5 (x0 : Vec Ideal S12288x4096 .bf16) (x1 : Vec Ideal S1x4096 .f32) (x2 : Vec Ideal S4096x3072 .fp8e4m3)
    (x3 : Vec Ideal S1x3072 .f32) : out0_5 x0 x1 x2 x3 = rcodes x0 x1 := by
  unfold_out out0_5
  rw [View.canon_unit_zero zero2, View.ld_unit_zero zero2, View.ld_unit_zero zero2]
  exact funext fun y => pay6_apply x0 x1 y

/-- The body's scales, from the blocks it reads. -/
theorem out_6 (x0 : Vec Ideal S12288x4096 .bf16) (x1 : Vec Ideal S1x4096 .f32) (x2 : Vec Ideal S4096x3072 .fp8e4m3)
    (x3 : Vec Ideal S1x3072 .f32) : out0_6 x0 x1 x2 x3 = rscaleAll x0 x1 := by
  unfold_out out0_6
  rw [View.canon_unit_zero zero3, View.ld_unit_zero zero2, View.ld_unit_zero zero2]
  refine funext fun y => ?_
  rw [pay2_apply, pay5_apply]
  rfl

/-- The body's product, from the blocks it reads. -/
theorem out_4 (x0 : Vec Ideal S12288x4096 .bf16) (x1 : Vec Ideal S1x4096 .f32) (x2 : Vec Ideal S4096x3072 .fp8e4m3)
    (x3 : Vec Ideal S1x3072 .f32) : out0_4 x0 x1 x2 x3 = rproduct x0 x1 x2 x3 := by
  unfold_out out0_4
  rw [View.canon_unit_zero zero2, View.ld_unit_zero zero2, View.ld_unit_zero zero2, View.ld_unit_zero zero2, View.ld_unit_zero zero2]
  refine funext fun y => ?_
  rw [pay1_apply, pay5_apply]
  simp only [pay6_apply]
  rfl

variable (m : (ℓ : Loc nD τ sig) → Buf (Elt Ideal) ℓ)

/-- The one block of rows is all of them. -/
theorem in_0 (c : Dev nD) (t : Fin cfg0.N) : iblk m c 0 t = V m c main_v0 := by
  have e := ((by decide +kernel : ∀ t : Fin cfg0.N, win0_0.index t 0 = 0 ∧ win0_0.index t 1 = 0) t)
  funext y
  refine congrArg (V m c main_v0) ?_
  funext a
  fin_cases a
  · refine Fin.ext ?_
    show win0_0.index t 0 * 12288 + 1 * (y 0).val = (y 0).val
    rw [e.1]; omega
  · refine Fin.ext ?_
    show win0_0.index t 1 * 4096 + 1 * (y 1).val = (y 1).val
    rw [e.2]; omega

/-- The one block of smoothing factors is all of them. -/
theorem in_1 (c : Dev nD) (t : Fin cfg0.N) : iblk m c 1 t = V m c main_v1 := by
  have e := ((by decide +kernel : ∀ t : Fin cfg0.N, win0_1.index t 0 = 0 ∧ win0_1.index t 1 = 0) t)
  funext y
  refine congrArg (V m c main_v1) ?_
  funext a
  fin_cases a
  · refine Fin.ext ?_
    show win0_1.index t 0 * 1 + 1 * (y 0).val = (y 0).val
    rw [e.1]; omega
  · refine Fin.ext ?_
    show win0_1.index t 1 * 4096 + 1 * (y 1).val = (y 1).val
    rw [e.2]; omega

/-- The one block of weights is all of them. -/
theorem in_2 (c : Dev nD) (t : Fin cfg0.N) : iblk m c 2 t = V m c main_arg2 := by
  have e := ((by decide +kernel : ∀ t : Fin cfg0.N, win0_2.index t 0 = 0 ∧ win0_2.index t 1 = 0) t)
  funext y
  refine congrArg (V m c main_arg2) ?_
  funext a
  fin_cases a
  · refine Fin.ext ?_
    show win0_2.index t 0 * 4096 + 1 * (y 0).val = (y 0).val
    rw [e.1]; omega
  · refine Fin.ext ?_
    show win0_2.index t 1 * 3072 + 1 * (y 1).val = (y 1).val
    rw [e.2]; omega

/-- The one block of the weights' scales is all of them. -/
theorem in_3 (c : Dev nD) (t : Fin cfg0.N) : iblk m c 3 t = V m c main_v2 := by
  have e := ((by decide +kernel : ∀ t : Fin cfg0.N, win0_3.index t 0 = 0 ∧ win0_3.index t 1 = 0) t)
  funext y
  refine congrArg (V m c main_v2) ?_
  funext a
  fin_cases a
  · refine Fin.ext ?_
    show win0_3.index t 0 * 1 + 1 * (y 0).val = (y 0).val
    rw [e.1]; omega
  · refine Fin.ext ?_
    show win0_3.index t 1 * 3072 + 1 * (y 1).val = (y 1).val
    rw [e.2]; omega

/-- The product's array after the run. -/
theorem final_4 (c : Dev nD) : (dats m 0 c).arrAt 4 cfg0.N = rproduct (V m c main_v0) (V m c main_v1) (V m c main_arg2) (V m c main_v2) := by
  refine (dats m 0 c).arrAt_eq_of_covers 4 _ (by decide +kernel) fun t hf y => ?_
  have e := ((by decide +kernel : ∀ t : Fin cfg0.N, win0_4.index t 0 = 0 ∧ win0_4.index t 1 = 0) t)
  have hy : y = (win0_4.blk t).view.emb y := by
    funext a
    fin_cases a
    · refine Fin.ext ?_
      show (y 0).val = win0_4.index t 0 * 12288 + 1 * (y 0).val
      rw [e.1]; omega
    · refine Fin.ext ?_
      show (y 1).val = win0_4.index t 1 * 3072 + 1 * (y 1).val
      rw [e.2]; omega
  blk_simp
  rw [after0_4, out_4, in_0, in_1, in_2, in_3]
  exact congrArg _ hy

/-- The codes' array after the run. -/
theorem final_5 (c : Dev nD) : (dats m 0 c).arrAt 5 cfg0.N = rcodes (V m c main_v0) (V m c main_v1) := by
  refine (dats m 0 c).arrAt_eq_of_covers 5 _ (by decide +kernel) fun t hf y => ?_
  have e := ((by decide +kernel : ∀ t : Fin cfg0.N, win0_5.index t 0 = 0 ∧ win0_5.index t 1 = 0) t)
  have hy : y = (win0_5.blk t).view.emb y := by
    funext a
    fin_cases a
    · refine Fin.ext ?_
      show (y 0).val = win0_5.index t 0 * 12288 + 1 * (y 0).val
      rw [e.1]; omega
    · refine Fin.ext ?_
      show (y 1).val = win0_5.index t 1 * 4096 + 1 * (y 1).val
      rw [e.2]; omega
  blk_simp
  rw [after0_5, out_5, in_0, in_1]
  exact congrArg _ hy

/-- The scales' array after the run. -/
theorem final_6 (c : Dev nD) : (dats m 0 c).arrAt 6 cfg0.N = rscaleAll (V m c main_v0) (V m c main_v1) := by
  refine (dats m 0 c).arrAt_eq_of_covers 6 _ (by decide +kernel) fun t hf y => ?_
  have e := ((by decide +kernel : ∀ t : Fin cfg0.N, win0_6.index t 0 = 0 ∧ win0_6.index t 1 = 0 ∧ win0_6.index t 2 = 0) t)
  have hy : y = (win0_6.blk t).view.emb y := by
    funext a
    fin_cases a
    · refine Fin.ext ?_
      show (y 0).val = win0_6.index t 0 * 24 + 1 * (y 0).val
      rw [e.1]; omega
    · refine Fin.ext ?_
      show (y 1).val = win0_6.index t 1 * 1 + 1 * (y 1).val
      rw [e.2.1]; omega
    · refine Fin.ext ?_
      show (y 2).val = win0_6.index t 2 * 512 + 1 * (y 2).val
      rw [e.2.2]; omega
  blk_simp
  rw [after0_6, out_6, in_0, in_1]
  exact congrArg _ hy

variable (ρ : Dev nD → PrngReg)

/-- The reference runs to the end, its three results hold the row functions' values and its arguments are unchanged. -/
theorem run : θ_run defs (onTc (τ := τ) (main (F := Ideal))) ⟨m, fun _ => 0, ρ⟩ fun r => ∀ c : Dev nD,
      r.2.mem ((c : Thread nD τ).loc main_v3_0) = rproduct (V m c main_v0) (V m c main_v1) (V m c main_arg2) (V m c main_v2)
      ∧ r.2.mem ((c : Thread nD τ).loc main_v3_1) = rcodes (V m c main_v0) (V m c main_v1)
      ∧ r.2.mem ((c : Thread nD τ).loc main_v3_2) = rscaleAll (V m c main_v0) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final_4 m c), ((h c).1 5).trans (final_5 m c),
      ((h c).1 6).trans (final_6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ReferenceIdeal.Hand

end
-- ==== Proof.InRange.lean ====
/-
  What the precondition says: no smoothing factor is zero, and every row's largest quotient is in the exponents' range.
-/
module

public import proofs.«01_k».proof.Defs
public import proofs.«01_k».proof.Proof.Row
public import Idealize.ShloMosaic.Lib.ReduceAll
public import Idealize.ShloMosaic.Lib.KernelVsHost

@[expose] public section

set_option maxRecDepth 16384

noncomputable section

open Idealize.ShloMosaic Idealize.ShloMosaic.TcCoe Idealize.SL.Sem

namespace Cert.Pre_in_range.Hand

open Cert.Pre_in_range Cert.Pre_in_range.Facts Cert.Row

variable [Facts]

/-- The printed quotients. -/
def quotient (x : FVec Ideal S3x4096x4096 .bf16) (s : FVec Ideal S4096 .f32) : FVec Ideal S3x4096x4096 .f32 :=
  Host.divf (extf .f32 x bitsLt_bf16_f32) (broadcastInDim S3x4096x4096 ![0, 1, 2] bcast_S1x1x4096_S3x4096x4096_0_1_2
    (broadcastInDim S1x1x4096 ![2] bcast_S4096_S1x1x4096_2 s))

/-- The printed largest magnitudes, times the constant 1/448. -/
def top (Q : FVec Ideal S3x4096x4096 .f32) : FVec Ideal S3x4096x1 .f32 :=
  mulf (broadcastInDim S3x4096x1 ![0, 1] bcast_S3x4096_S3x4096x1_0_1
      (Host.reduce FloatOps.maximumf (Host.absf Q) (constant S_ .f32 0xFF800000#32) reducesTo_S3x4096x4096_S3x4096_d2 h_S_))
    (broadcastInDim S3x4096x1 ![] bcast_S_S3x4096x1 (constant S_ .f32 0x3B124925#32))

/-- The printed test of a row. -/
def ok (T : FVec Ideal S3x4096x1 .f32) : IVec S3x4096x1 1 :=
  ori (ori (cmpf .oeq T (broadcastInDim S3x4096x1 ![] bcast_S_S3x4096x1 (constant S_ .f32 0x00000000#32)))
      (cmpf .oeq T (broadcastInDim S3x4096x1 ![] bcast_S_S3x4096x1 (constant S_ .f32 0x7F800000#32))))
    (andi (cmpf .oge T (broadcastInDim S3x4096x1 ![] bcast_S_S3x4096x1 (constant S_ .f32 0x00800000#32)))
      (cmpf .olt T (broadcastInDim S3x4096x1 ![] bcast_S_S3x4096x1 (constant S_ .f32 0x7E800000#32))))

/-- The printed test of the smoothing factors. -/
def nonzero (s : FVec Ideal S4096 .f32) : IVec S4096 1 :=
  cmpf .une s (broadcastInDim S4096 ![] bcast_S_S4096 (constant S_ .f32 0x00000000#32))

/-- The printed precondition is the conjunction of the two tests over all indices. -/
theorem fn_eq (x : FVec Ideal S3x4096x4096 .bf16) (s : FVec Ideal S4096 .f32) (w : FVec Ideal S4096x3072 .fp8e4m3)
    (ws : FVec Ideal S3072 .f32) : fn x s w ws
      = andi (Host.reduce IntOp.andi (ok (top (quotient x s))) (constantI S_ 1 1#1) reducesTo_S3x4096x1_S_d0_1_2 h_S_)
          (Host.reduce IntOp.andi (nonzero s) (constantI S_ 1 1#1) reducesTo_S4096_S_d0 h_S_) := rfl

/-- The quotient at an index. -/
theorem quotient_apply (x : FVec Ideal S3x4096x4096 .bf16) (s : FVec Ideal S4096 .f32) (y : S3x4096x4096.Idx) :
    quotient x s y = Ideal.div (x y) (s (ix1 (y 2))) := by
  unfold quotient
  pointwise

/-- A row's maximum is over the last axis. -/
theorem reduces_d2 : S3x4096x4096.Reduces [2] S3x4096 := by decide

/-- A row's printed maximum, folded over the row. -/
theorem max_apply (X : FVec Ideal S3x4096x4096 .f32) (y : S3x4096.Idx) :
    multiReduction .maximumf [2] S3x4096 X 0xFF800000#32 reduces_d2 (.inl rfl) rfl y
      = Finset.univ.fold max (Ideal.ofBits .f32 0xFF800000#32) fun k => X (ix3 (y 0) (y 1) k) := by
  pointwise

/-- A host reduction by maximum is the kernel's. -/
theorem max_eq (X : FVec Ideal S3x4096x4096 .f32) :
    Host.reduce FloatOps.maximumf X (constant S_ .f32 0xFF800000#32) reducesTo_S3x4096x4096_S3x4096_d2 h_S_
      = multiReduction .maximumf [2] S3x4096 X 0xFF800000#32 reduces_d2 (.inl rfl) rfl :=
  hostReduce_maximumf_eq_multiReduction _ _ _ _ _ _ _

/-- The row maxima `R` times 1/448, laid out as a column. -/
theorem column_apply (R : FVec Ideal S3x4096 .f32) (y : S3x4096x1.Idx) :
    mulf (broadcastInDim S3x4096x1 ![0, 1] bcast_S3x4096_S3x4096x1_0_1 R)
      (broadcastInDim S3x4096x1 ![] bcast_S_S3x4096x1 (constant S_ .f32 0x3B124925#32)) y
      = R (ix2 (y 0) (y 1)) * Ideal.ofBits .f32 0x3B124925#32 := by
  pointwise

/-- The largest magnitude of a row, times 1/448. -/
theorem top_apply (Q : FVec Ideal S3x4096x4096 .f32) (y : S3x4096x1.Idx) :
    top Q y = tmax fun k => Q (ix3 (y 0) (y 1) k) := by
  unfold top
  rw [column_apply, max_eq, max_apply]
  rfl

/-- A test word that is one says that the test holds. -/
theorem of_word {p : Prop} [Decidable p] (h : BitVec.ofBool (decide p) = 1#1) : p := by
  by_contra hn
  rw [decide_eq_false hn] at h
  exact absurd h (by decide)

/-- A row that passes the test is in range. -/
theorem ok_apply (T : FVec Ideal S3x4096x1 .f32) (y : S3x4096x1.Idx) (h : ok T y = 1#1) : Scale.Ok (T y) := by
  unfold ok at h
  revert h
  pointwise
  have w0 : Ideal.ofBits .f32 2139095040#32 = ⊤ := Scale.word_top
  have w1 : Ideal.ofBits .f32 8388608#32 = (((2 : ℝ) ^ (-126 : ℤ) : ℝ) : EReal) := Scale.word_pow 1 (by decide) (by decide)
  have w2 : Ideal.ofBits .f32 2122317824#32 = (((2 : ℝ) ^ (126 : ℤ) : ℝ) : EReal) := Scale.word_pow 253 (by decide) (by decide)
  rw [w0, w1, w2]
  intro h
  rcases IntOp.ori_eq_one.1 h with h | h
  · rcases IntOp.ori_eq_one.1 h with h | h
    · exact Or.inl (of_word h)
    · exact Or.inr (Or.inl (of_word h))
  · obtain ⟨h1, h2⟩ := IntOp.andi_eq_one.1 h
    exact Or.inr (Or.inr ⟨of_word h1, of_word h2⟩)

/-- A smoothing factor that passes the test is not zero. -/
theorem nonzero_apply (s : FVec Ideal S4096 .f32) (y : S4096.Idx) (h : nonzero s y = 1#1) : s y ≠ 0 := by
  unfold nonzero at h
  revert h
  pointwise
  exact of_word

/-- The precondition, read back. -/
theorem in_range (x : FVec Ideal S3x4096x4096 .bf16) (s : FVec Ideal S4096 .f32) (w : FVec Ideal S4096x3072 .fp8e4m3)
    (ws : FVec Ideal S3072 .f32) (h : fn x s w ws = fun _ => 1#1) :
    (∀ k, s k ≠ 0) ∧ ∀ b t, Scale.Ok (tmax fun k => Ideal.div (x (ix3 b t k)) (s (ix1 k))) := by
  rw [fn_eq] at h
  have e := IntOp.andi_eq_one.1 (congrFun h (fun a => a.elim0))
  haveI : Subsingleton S_.Idx := ⟨fun a b => funext fun i => i.elim0⟩
  refine ⟨fun k => nonzero_apply s k (Host.reduce_andi_all _ _ _ _ _ e.2 k), fun b t => ?_⟩
  have e1 := ok_apply _ _ (Host.reduce_andi_all _ _ _ _ _ e.1 (ix3 b t 0))
  rw [top_apply] at e1
  simp only [quotient_apply] at e1
  exact e1

end Cert.Pre_in_range.Hand

end
-- ==== Proof.Compare.lean ====
/-
  The kernel's row functions and the reference's agree where the precondition holds.
-/
module

public import proofs.«01_k».proof.Proof.KernelValue
public import proofs.«01_k».proof.Proof.RefValue
public import proofs.«01_k».proof.Proof.InRange
public import Idealize.ShloMosaic.Lib.Claim

@[expose] public section

set_option maxRecDepth 16384

noncomputable section

open Idealize.ShloMosaic Idealize.ShloMosaic.TcCoe Idealize.SL.Sem

namespace Cert.Row

section Pure

variable (X : (⟨2, ![12288, 4096]⟩ : Shape).Idx → EReal) (s i : (⟨2, ![1, 4096]⟩ : Shape).Idx → EReal)
  (W : (⟨2, ![4096, 3072]⟩ : Shape).Idx → EReal) (ws : (⟨2, ![1, 3072]⟩ : Shape).Idx → EReal)
  (hs : ∀ k, s (ix2 0 k) ≠ 0) (hi : ∀ k, i (ix2 0 k) = Ideal.div 1 (s (ix2 0 k)))
  (ok : ∀ q, Scale.Ok (tmax (drow X s q)))

include hs hi

/-- Where no factor is zero, the product with its inverse is the quotient. -/
theorem row_eq (q : Fin 12288) : row (n := 12288) X i q = drow X s q := by
  funext k
  show X (ix2 q k) * i (ix2 0 k) = Ideal.div (X (ix2 q k)) (s (ix2 0 k))
  rw [hi]
  unfold Ideal.div
  rw [if_neg (hs k), if_neg (hs k), one_mul]

include ok

/-- The scales of a row agree. -/
theorem scale_row (q : Fin 12288) : scale (row (n := 12288) X i q) = rscale (drow X s q) := by
  rw [row_eq X s i hs hi]
  exact Scale.scale_eq _ (ok q)

/-- The inverse scales of a row agree. -/
theorem inv_row (q : Fin 12288) : inv (row (n := 12288) X i q) = rinv (drow X s q) := by
  rw [row_eq X s i hs hi]
  exact Scale.inv_scale_eq _ (ok q)

/-- The codes agree. -/
theorem codes_agree : codes (n := 12288) X i = rcodes X s := by
  funext y
  show clip (inv (row (n := 12288) X i (y 0))) (row (n := 12288) X i (y 0) (y 1)) = clip (rinv (drow X s (y 0))) (drow X s (y 0) (y 1))
  have e1 := inv_row X s i hs hi ok (y 0)
  have e2 := congrFun (row_eq X s i hs hi (y 0)) (y 1)
  exact congrArg₂ clip e1 e2

/-- The scales agree. -/
theorem scales_agree : scaleAll X i = rscaleAll X s := funext fun y => scale_row X s i hs hi ok (rowAt y)

/-- The products agree. -/
theorem products_agree : productAll X i W ws = rproduct X s W ws := by
  funext y
  unfold productAll rproduct
  rw [codes_agree X s i hs hi ok]
  have e := scale_row X s i hs hi ok (y 0)
  exact congrArg (fun r : EReal => _ * r * _) e

end Pure

end Cert.Row

namespace Cert.KernelIdeal.Hand

open Cert.KernelIdeal Cert.KernelIdeal.Gen Cert.Row

variable (m : (ℓ : Loc nD τ sig) → Buf (Elt Ideal) ℓ)

/-- The inverse smoothing factors are the quotients of one. -/
theorem inverse_apply (c : Dev nD) (y : S1x4096.Idx) : inverse m c y = Ideal.div 1 (S m c y) := by
  unfold inverse
  generalize S m c = s
  unfold k0_pay2
  pointwise

/-- The rows the kernel's region finds are the argument's, flattened. -/
theorem entry_0 (c : Dev nD) : V m c main_v0
    = shapeCast S12288x4096 (m ((c : Thread nD τ).loc main_arg0)) shapeCasts_S3x4096x4096_S12288x4096 := by
  entry_read
  rfl

/-- The smoothing factors the kernel's region finds are the argument's. -/
theorem entry_1 (c : Dev nD) : V m c main_v1
    = shapeCast S1x4096 (m ((c : Thread nD τ).loc main_arg1)) shapeCasts_S4096_S1x4096 := by
  entry_read
  rfl

/-- The weights' scales the kernel's region finds are the argument's. -/
theorem entry_2 (c : Dev nD) : V m c main_v2
    = shapeCast S1x3072 (m ((c : Thread nD τ).loc main_arg3)) shapeCasts_S3072_S1x3072 := by
  entry_read
  rfl

/-- A flattened row is one of the argument's rows. -/
theorem rows_apply (x : FVec Ideal S3x4096x4096 .bf16) (q : Fin 12288) (k : Fin 4096) :
    shapeCast S12288x4096 x shapeCasts_S3x4096x4096_S12288x4096 (ix2 q k)
      = x (ix3 ⟨q.val / 4096, by omega⟩ ⟨q.val % 4096, by omega⟩ k) := by
  pointwise

/-- A smoothing factor, as a row of one. -/
theorem factors_apply (s : FVec Ideal S4096 .f32) (k : Fin 4096) :
    shapeCast S1x4096 s shapeCasts_S4096_S1x4096 (ix2 0 k) = s (ix1 k) := by
  pointwise

end Cert.KernelIdeal.Hand

namespace Cert.ReferenceIdeal.Hand

open Cert.ReferenceIdeal Cert.ReferenceIdeal.Gen Cert.Row

variable (m : (ℓ : Loc nD τ sig) → Buf (Elt Ideal) ℓ)

/-- The rows the reference's region finds are the argument's, flattened. -/
theorem entry_0 (c : Dev nD) : V m c main_v0
    = shapeCast S12288x4096 (m ((c : Thread nD τ).loc main_arg0)) shapeCasts_S3x4096x4096_S12288x4096 := by
  entry_read
  rfl

/-- The smoothing factors the reference's region finds are the argument's. -/
theorem entry_1 (c : Dev nD) : V m c main_v1
    = shapeCast S1x4096 (m ((c : Thread nD τ).loc main_arg1)) shapeCasts_S4096_S1x4096 := by
  entry_read
  rfl

/-- The weights' scales the reference's region finds are the argument's. -/
theorem entry_2 (c : Dev nD) : V m c main_v2
    = shapeCast S1x3072 (m ((c : Thread nD τ).loc main_arg3)) shapeCasts_S3072_S1x3072 := by
  entry_read
  rfl

end Cert.ReferenceIdeal.Hand

namespace Cert.KernelIdeal.Hand

open Cert.KernelIdeal Cert.KernelIdeal.Gen Cert.Row

variable (m : (ℓ : Loc nD τ sig) → Buf (Elt Ideal) ℓ) (ρ : Dev nD → PrngReg)

/-- What the precondition says of what the kernel's region finds. -/
theorem ranges [Cert.Pre_in_range.Facts] (h : Cert.Pre_KernelIdeal_in_range m) (c : Dev nD) :
    (∀ k, S m c (ix2 0 k) ≠ 0) ∧ ∀ q, Scale.Ok (tmax (drow (X m c) (S m c) q)) := by
  obtain ⟨hs, ok⟩ := Cert.Pre_in_range.Hand.in_range _ _ _ _ (h c)
  have eS : ∀ k, S m c (ix2 0 k) = m ((c : Thread nD τ).loc main_arg1) (ix1 k) := fun k =>
    (congrFun (entry_1 m c) (ix2 0 k)).trans (factors_apply _ k)
  refine ⟨fun k => by rw [eS k]; exact hs (ix1 k), fun q => ?_⟩
  have e : drow (X m c) (S m c) q = fun k => Ideal.div (m ((c : Thread nD τ).loc main_arg0)
      (ix3 ⟨q.val / 4096, by omega⟩ ⟨q.val % 4096, by omega⟩ k)) (m ((c : Thread nD τ).loc main_arg1) (ix1 k)) := by
    funext k
    exact congrArg₂ Ideal.div ((congrFun (entry_0 m c) (ix2 q k)).trans (rows_apply _ q k)) (eS k)
  rw [e]
  exact ok _ _

/-- The kernel runs to the end, its three results hold the reference's row functions and its arguments are unchanged. -/
theorem run [Cert.Pre_in_range.Facts] (h : Cert.Pre_KernelIdeal_in_range m) :
    θ_run defs (onTc (τ := τ) (main (F := Ideal))) ⟨m, fun _ => 0, ρ⟩ fun r => ∀ c : Dev nD,
      r.2.mem ((c : Thread nD τ).loc main_v3_0) = rproduct (X m c) (S m c) (W m c) (WS m c)
      ∧ r.2.mem ((c : Thread nD τ).loc main_v3_1) = rcodes (X m c) (S m c)
      ∧ r.2.mem ((c : Thread nD τ).loc main_v3_2) = rscaleAll (X m c) (S m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => by
      obtain ⟨hs, ok⟩ := ranges m h c
      have hi : ∀ k, inverse m c (ix2 0 k) = Ideal.div 1 (S m c (ix2 0 k)) := fun k => inverse_apply m c _
      exact ⟨((hr c).1 4).trans ((final_4 m c).trans (products_agree _ _ _ _ _ hs hi ok)),
      ((hr c).1 5).trans ((final_5 m c).trans (codes_agree _ _ _ hs hi ok)),
      ((hr c).1 6).trans ((final_6 m c).trans (scales_agree _ _ _ hs hi ok)),
      ((hr c).2 main_arg0 (Pipeline.mem_restRefs_of main_arg0 (by decide) (by decide))).trans (V_main_arg0 m c),
      ((hr c).2 main_arg1 (Pipeline.mem_restRefs_of main_arg1 (by decide) (by decide))).trans (V_main_arg1 m c),
      ((hr c).1 2).trans (((dats m 0 c).arrAt_in 2 rfl _).trans ((A_eq m c 2).trans (V_main_arg2 m c))),
      ((hr c).2 main_arg3 (Pipeline.mem_restRefs_of main_arg3 (by decide) (by decide))).trans (V_main_arg3 m c)⟩)
    (run_main m ρ)

end Cert.KernelIdeal.Hand

end
-- ==== Proof.lean ====
/-
  The claims: each program runs to its end and leaves its arguments and semaphores as they were, the ideal program is the
  kernel over the extended reals, and the kernel's three results are the reference's where the precondition holds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import Idealize.ShloMosaic.Adequacy
public import Idealize.ShloMosaic.Init
public import proofs.«01_k».proof.Proof.Compare

@[expose] public section

noncomputable section

namespace Cert.Proof

open Idealize.ShloMosaic Idealize.SL.Sem Cert.Kernel

/-- From memories that agree on the arguments, the kernel and the reference end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  refine ⟨_, _, _, Cert.KernelIdeal.Hand.run m g hpre, ?_⟩
  refine (θ_run _ _ _).mono (fun r h c => ?_) (Cert.ReferenceIdeal.Hand.run m' g')
  obtain ⟨a0, a1, a2, a3⟩ := hagree c
  have e0 : Cert.ReferenceIdeal.Gen.V m' c Cert.ReferenceIdeal.main_v0 = Cert.KernelIdeal.Hand.X m c :=
    (Cert.ReferenceIdeal.Hand.entry_0 m' c).trans ((by rw [a0] : _ = _).trans (Cert.KernelIdeal.Hand.entry_0 m c).symm)
  have e1 : Cert.ReferenceIdeal.Gen.V m' c Cert.ReferenceIdeal.main_v1 = Cert.KernelIdeal.Hand.S m c :=
    (Cert.ReferenceIdeal.Hand.entry_1 m' c).trans ((by rw [a1] : _ = _).trans (Cert.KernelIdeal.Hand.entry_1 m c).symm)
  have e2 : Cert.ReferenceIdeal.Gen.V m' c Cert.ReferenceIdeal.main_arg2 = Cert.KernelIdeal.Hand.W m c :=
    (Cert.ReferenceIdeal.Gen.V_main_arg2 m' c).trans (a2.trans (Cert.KernelIdeal.Gen.V_main_arg2 m c).symm)
  have e3 : Cert.ReferenceIdeal.Gen.V m' c Cert.ReferenceIdeal.main_v2 = Cert.KernelIdeal.Hand.WS m c :=
    (Cert.ReferenceIdeal.Hand.entry_2 m' c).trans ((by rw [a3] : _ = _).trans (Cert.KernelIdeal.Hand.entry_2 m c).symm)
  have hc := h c
  rw [e0, e1, e2, e3] at hc
  exact hc

/-- All the claims. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
